-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x3x32x256 : Shape := ⟨4, ![2, 3, 32, 256]⟩
abbrev S2x32x256 : Shape := ⟨3, ![2, 32, 256]⟩
abbrev S2x3 : Shape := ⟨2, ![2, 3]⟩
abbrev S2 : Shape := ⟨1, ![2]⟩
abbrev S_ : Shape := ⟨0, ![]⟩
abbrev S1x1 : Shape := ⟨2, ![1, 1]⟩
abbrev S1x1x32x256 : Shape := ⟨4, ![1, 1, 32, 256]⟩
abbrev S32x256 : Shape := ⟨2, ![32, 256]⟩
abbrev S1 : Shape := ⟨1, ![1]⟩
abbrev S1x32x256 : Shape := ⟨3, ![1, 32, 256]⟩

abbrev nBuf : Space → Nat
  | .hbm => 2
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x3x32x256, .f32⟩
  | .local _ .vmem, ⟨3, _⟩ => ⟨S2x3x32x256, .f32⟩
  | .local _ .vmem, ⟨4, _⟩ => ⟨S2x3x32x256, .f32⟩
  | .local _ .vmem, ⟨5, _⟩ => ⟨S2x32x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v14 : BitVec 32 := Scalar.xori v2 c1_i32_4
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.xori v2 c2_i32
  let c1_i32_9 : BitVec 32 := 1#32
  let v18 : BitVec 32 := Scalar.muli v17 c1_i32_9
  let v19 : BitVec 32 := Scalar.addi c0_i32_10 v18
  v19.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v20 : BitVec 32 := Scalar.xori v2 c3_i32
  let c1_i32_12 : BitVec 32 := 1#32
  let v21 : BitVec 32 := Scalar.muli v20 c1_i32_12
  let v22 : BitVec 32 := Scalar.addi c0_i32_13 v21
  v22.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_14 : BitVec 32 := 4#32
  let v23 : BitVec 32 := Scalar.xori v2 c4_i32_14
  let c1_i32_16 : BitVec 32 := 1#32
  let v24 : BitVec 32 := Scalar.muli v23 c1_i32_16
  let v25 : BitVec 32 := Scalar.addi c0_i32_17 v24
  v25.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v26 : BitVec 32 := Scalar.xori v2 c8_i32
  let c1_i32_19 : BitVec 32 := 1#32
  let v27 : BitVec 32 := Scalar.muli v26 c1_i32_19
  let v28 : BitVec 32 := Scalar.addi c0_i32_20 v27
  v28.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v29 : BitVec 32 := Scalar.xori v2 c16_i32
  let c1_i32_22 : BitVec 32 := 1#32
  let v30 : BitVec 32 := Scalar.muli v29 c1_i32_22
  let v31 : BitVec 32 := Scalar.addi c0_i32_23 v30
  v31.toNat
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v32 : BitVec 32 := Scalar.xori v2 c24_i32
  let c1_i32_25 : BitVec 32 := 1#32
  let v33 : BitVec 32 := Scalar.muli v32 c1_i32_25
  let v34 : BitVec 32 := Scalar.addi c0_i32_26 v33
  v34.toNat
def k0_off1 (d0 : Dev nD) (c0_i32_29 : BitVec 32) (c1_i32_27 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v35 : BitVec 32 := Scalar.xori v12 c1_i32_27
  let c32_i32_28 : BitVec 32 := 32#32
  let v36 : BitVec 32 := Scalar.muli v35 c32_i32_28
  let v37 : BitVec 32 := Scalar.addi c0_i32_29 v36
  let c0_i32_41 : BitVec 32 := 0#32
  ![v37.toNat, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_30 : BitVec 32 := 1#32
  let v38 : BitVec 32 := Scalar.xori v2 c1_i32_30
  let c1_i32_37 : BitVec 32 := 1#32
  let v39 : BitVec 32 := Scalar.muli v38 c1_i32_37
  let v40 : BitVec 32 := Scalar.addi c0_i32_38 v39
  v40.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_45 : BitVec 32 := 2#32
  let v51 : BitVec 32 := Scalar.xori v2 c2_i32_45
  let c1_i32_52 : BitVec 32 := 1#32
  let v52 : BitVec 32 := Scalar.muli v51 c1_i32_52
  let v53 : BitVec 32 := Scalar.addi c0_i32_53 v52
  v53.toNat
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v64 : BitVec 32 := Scalar.xori v2 c3_i32_60
  let c1_i32_67 : BitVec 32 := 1#32
  let v65 : BitVec 32 := Scalar.muli v64 c1_i32_67
  let v66 : BitVec 32 := Scalar.addi c0_i32_68 v65
  v66.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_74 : BitVec 32 := 1#32
  let v77 : BitVec 32 := Scalar.xori v2 c1_i32_74
  let c1_i32_81 : BitVec 32 := 1#32
  let v78 : BitVec 32 := Scalar.muli v77 c1_i32_81
  let v79 : BitVec 32 := Scalar.addi c0_i32_82 v78
  v79.toNat
def k0_dev12 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_89 : BitVec 32 := 2#32
  let v90 : BitVec 32 := Scalar.xori v2 c2_i32_89
  let c1_i32_96 : BitVec 32 := 1#32
  let v91 : BitVec 32 := Scalar.muli v90 c1_i32_96
  let v92 : BitVec 32 := Scalar.addi c0_i32_97 v91
  v92.toNat
def k0_dev13 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_104 : BitVec 32 := 3#32
  let v103 : BitVec 32 := Scalar.xori v2 c3_i32_104
  let c1_i32_111 : BitVec 32 := 1#32
  let v104 : BitVec 32 := Scalar.muli v103 c1_i32_111
  let v105 : BitVec 32 := Scalar.addi c0_i32_112 v104
  v105.toNat
def k0_off2 (d0 : Dev nD) (c0_i32_150 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32_149 : BitVec 32 := 32#32
  let v134 : BitVec 32 := Scalar.muli v12 c32_i32_149
  let v135 : BitVec 32 := Scalar.addi c0_i32_150 v134
  let v136 : Index := Scalar.indexCast v135
  let c0 : Index := 0#32
  ![v136.toNat, 0]
def k0_dev14 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_165 : BitVec 32 := 8#32
  let v151 : BitVec 32 := Scalar.xori v2 c8_i32_165
  let c1_i32_174 : BitVec 32 := 1#32
  let v152 : BitVec 32 := Scalar.muli v151 c1_i32_174
  let v153 : BitVec 32 := Scalar.addi c0_i32_175 v152
  v153.toNat
def k0_dev15 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_180 : BitVec 32 := 16#32
  let v162 : BitVec 32 := Scalar.xori v2 c16_i32_180
  let c1_i32_189 : BitVec 32 := 1#32
  let v163 : BitVec 32 := Scalar.muli v162 c1_i32_189
  let v164 : BitVec 32 := Scalar.addi c0_i32_190 v163
  v164.toNat
def k0_dev16 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_195 : BitVec 32 := 24#32
  let v173 : BitVec 32 := Scalar.xori v2 c24_i32_195
  let c1_i32_204 : BitVec 32 := 1#32
  let v174 : BitVec 32 := Scalar.muli v173 c1_i32_204
  let v175 : BitVec 32 := Scalar.addi c0_i32_205 v174
  v175.toNat
def k0_dev17 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_262 : BitVec 32 := 4#32
  let v222 : BitVec 32 := Scalar.xori v2 c4_i32_262
  let c1_i32_268 : BitVec 32 := 1#32
  let v223 : BitVec 32 := Scalar.muli v222 c1_i32_268
  let v224 : BitVec 32 := Scalar.addi c0_i32_269 v223
  v224.toNat
def k0_dev18 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_336 : BitVec 32 := 4#32
  let v271 : BitVec 32 := Scalar.xori v2 c4_i32_336
  let c1_i32_342 : BitVec 32 := 1#32
  let v272 : BitVec 32 := Scalar.muli v271 c1_i32_342
  let v273 : BitVec 32 := Scalar.addi c0_i32_343 v272
  v273.toNat
def k0_dev19 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_370 : BitVec 32 := 8#32
  let v298 : BitVec 32 := Scalar.xori v2 c8_i32_370
  let c1_i32_379 : BitVec 32 := 1#32
  let v299 : BitVec 32 := Scalar.muli v298 c1_i32_379
  let v300 : BitVec 32 := Scalar.addi c0_i32_380 v299
  v300.toNat
def k0_dev20 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_385 : BitVec 32 := 16#32
  let v309 : BitVec 32 := Scalar.xori v2 c16_i32_385
  let c1_i32_394 : BitVec 32 := 1#32
  let v310 : BitVec 32 := Scalar.muli v309 c1_i32_394
  let v311 : BitVec 32 := Scalar.addi c0_i32_395 v310
  v311.toNat
def k0_dev21 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_400 : BitVec 32 := 24#32
  let v320 : BitVec 32 := Scalar.xori v2 c24_i32_400
  let c1_i32_409 : BitVec 32 := 1#32
  let v321 : BitVec 32 := Scalar.muli v320 c1_i32_409
  let v322 : BitVec 32 := Scalar.addi c0_i32_410 v321
  v322.toNat
def k0_off3 (d0 : Dev nD) (c0_i32_447 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c32_i32_446 : BitVec 32 := 32#32
  let v355 : BitVec 32 := Scalar.muli v12 c32_i32_446
  let v356 : BitVec 32 := Scalar.addi c0_i32_447 v355
  let c0_i32_455 : BitVec 32 := 0#32
  ![v356.toNat, 0]
def k0_dev22 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_448 : BitVec 32 := 1#32
  let v357 : BitVec 32 := Scalar.xori v2 c1_i32_448
  let c1_i32_453 : BitVec 32 := 1#32
  let v358 : BitVec 32 := Scalar.muli v357 c1_i32_453
  let v359 : BitVec 32 := Scalar.addi c0_i32_454 v358
  v359.toNat
def k0_dev23 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_461 : BitVec 32 := 2#32
  let v370 : BitVec 32 := Scalar.xori v2 c2_i32_461
  let c1_i32_466 : BitVec 32 := 1#32
  let v371 : BitVec 32 := Scalar.muli v370 c1_i32_466
  let v372 : BitVec 32 := Scalar.addi c0_i32_467 v371
  v372.toNat
def k0_dev24 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_474 : BitVec 32 := 3#32
  let v383 : BitVec 32 := Scalar.xori v2 c3_i32_474
  let c1_i32_479 : BitVec 32 := 1#32
  let v384 : BitVec 32 := Scalar.muli v383 c1_i32_479
  let v385 : BitVec 32 := Scalar.addi c0_i32_480 v384
  v385.toNat
def k0_dev25 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_556 : BitVec 32 := 1#32
  let v440 : BitVec 32 := Scalar.xori v2 c1_i32_556
  let c1_i32_561 : BitVec 32 := 1#32
  let v441 : BitVec 32 := Scalar.muli v440 c1_i32_561
  let v442 : BitVec 32 := Scalar.addi c0_i32_562 v441
  v442.toNat
def k0_dev26 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_569 : BitVec 32 := 2#32
  let v453 : BitVec 32 := Scalar.xori v2 c2_i32_569
  let c1_i32_574 : BitVec 32 := 1#32
  let v454 : BitVec 32 := Scalar.muli v453 c1_i32_574
  let v455 : BitVec 32 := Scalar.addi c0_i32_575 v454
  v455.toNat
def k0_dev27 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_582 : BitVec 32 := 3#32
  let v466 : BitVec 32 := Scalar.xori v2 c3_i32_582
  let c1_i32_587 : BitVec 32 := 1#32
  let v467 : BitVec 32 := Scalar.muli v466 c1_i32_587
  let v468 : BitVec 32 := Scalar.addi c0_i32_588 v467
  v468.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩
abbrev S32x256x256 : Shape := ⟨3, ![32, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256x256, .f32⟩
  | .hbm, ⟨2, _⟩ => ⟨S_, .f32⟩
  | .hbm, ⟨3, _⟩ => ⟨S256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
# The mesh: who talks to whom, and which rows of an array belong to whom

Thirty-two devices, a device's partners named by flipping bits of its number. Seven flips are used: 1, 2 and 3
(the three others of a group of four), 4 (the other group of its pair), 8, 16 and 24 (the three others along the
long axis). A 256 × 256 array is cut into eight blocks of 32 rows, named by a half `h` and a place `q` of four.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.Pointwise.Reshape

@[expose] public section

noncomputable section

namespace Cert.AllReduce

open Cert.KernelIdeal Cert.KernelIdeal.Gen
open Idealize.ShloMosaic Idealize.ShloMosaic.TcCoe
open Idealize.SL Idealize.SL.Sem

/-! ## Partners -/

/-- The seven bit patterns by which partners differ. -/
def flip : Fin 7 → Fin 32 := ![1, 2, 3, 4, 8, 16, 24]

/-- The partner of `c` by the `i`-th pattern. -/
def par (i : Fin 7) (c : Dev nD) : Dev nD := (c : Fin 32) ^^^ flip i

/-- Partnership is mutual. -/
theorem par_par (i : Fin 7) (c : Dev nD) : par i (par i c) = c := by revert i c; decide +kernel

/-- The `i`-th partner as a permutation of the devices. -/
def parE (i : Fin 7) : Dev nD ≃ Dev nD := ⟨par i, par i, par_par i, par_par i⟩

/-- Distinct patterns give distinct partners, and no device is its own. -/
theorem par_inj (c : Dev nD) : Function.Injective fun i => par i c := by revert c; decide +kernel

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev4_eq (c : Dev nD) : (⟨k0_dev4 c, k0_dev4_lt c⟩ : Dev nD) = par 3 c := by revert c; decide +kernel
theorem dev5_eq (c : Dev nD) : (⟨k0_dev5 c, k0_dev5_lt c⟩ : Dev nD) = par 4 c := by revert c; decide +kernel
theorem dev6_eq (c : Dev nD) : (⟨k0_dev6 c, k0_dev6_lt c⟩ : Dev nD) = par 5 c := by revert c; decide +kernel
theorem dev7_eq (c : Dev nD) : (⟨k0_dev7 c, k0_dev7_lt c⟩ : Dev nD) = par 6 c := by revert c; decide +kernel
theorem dev8_eq (c : Dev nD) : (⟨k0_dev8 c, k0_dev8_lt c⟩ : Dev nD) = par 0 c := by revert c; decide +kernel
theorem dev9_eq (c : Dev nD) : (⟨k0_dev9 c, k0_dev9_lt c⟩ : Dev nD) = par 1 c := by revert c; decide +kernel
theorem dev10_eq (c : Dev nD) : (⟨k0_dev10 c, k0_dev10_lt c⟩ : Dev nD) = par 2 c := by revert c; decide +kernel
theorem dev11_eq (c : Dev nD) : (⟨k0_dev11 c, k0_dev11_lt c⟩ : Dev nD) = par 0 c := by revert c; decide +kernel
theorem dev12_eq (c : Dev nD) : (⟨k0_dev12 c, k0_dev12_lt c⟩ : Dev nD) = par 1 c := by revert c; decide +kernel
theorem dev13_eq (c : Dev nD) : (⟨k0_dev13 c, k0_dev13_lt c⟩ : Dev nD) = par 2 c := by revert c; decide +kernel
theorem dev14_eq (c : Dev nD) : (⟨k0_dev14 c, k0_dev14_lt c⟩ : Dev nD) = par 4 c := by revert c; decide +kernel
theorem dev15_eq (c : Dev nD) : (⟨k0_dev15 c, k0_dev15_lt c⟩ : Dev nD) = par 5 c := by revert c; decide +kernel
theorem dev16_eq (c : Dev nD) : (⟨k0_dev16 c, k0_dev16_lt c⟩ : Dev nD) = par 6 c := by revert c; decide +kernel
theorem dev17_eq (c : Dev nD) : (⟨k0_dev17 c, k0_dev17_lt c⟩ : Dev nD) = par 3 c := by revert c; decide +kernel
theorem dev18_eq (c : Dev nD) : (⟨k0_dev18 c, k0_dev18_lt c⟩ : Dev nD) = par 3 c := by revert c; decide +kernel
theorem dev19_eq (c : Dev nD) : (⟨k0_dev19 c, k0_dev19_lt c⟩ : Dev nD) = par 4 c := by revert c; decide +kernel
theorem dev20_eq (c : Dev nD) : (⟨k0_dev20 c, k0_dev20_lt c⟩ : Dev nD) = par 5 c := by revert c; decide +kernel
theorem dev21_eq (c : Dev nD) : (⟨k0_dev21 c, k0_dev21_lt c⟩ : Dev nD) = par 6 c := by revert c; decide +kernel
theorem dev22_eq (c : Dev nD) : (⟨k0_dev22 c, k0_dev22_lt c⟩ : Dev nD) = par 0 c := by revert c; decide +kernel
theorem dev23_eq (c : Dev nD) : (⟨k0_dev23 c, k0_dev23_lt c⟩ : Dev nD) = par 1 c := by revert c; decide +kernel
theorem dev24_eq (c : Dev nD) : (⟨k0_dev24 c, k0_dev24_lt c⟩ : Dev nD) = par 2 c := by revert c; decide +kernel
theorem dev25_eq (c : Dev nD) : (⟨k0_dev25 c, k0_dev25_lt c⟩ : Dev nD) = par 0 c := by revert c; decide +kernel
theorem dev26_eq (c : Dev nD) : (⟨k0_dev26 c, k0_dev26_lt c⟩ : Dev nD) = par 1 c := by revert c; decide +kernel
theorem dev27_eq (c : Dev nD) : (⟨k0_dev27 c, k0_dev27_lt c⟩ : Dev nD) = par 2 c := by revert c; decide +kernel

/-! ## Places -/

/-- The place of a device in its group of four. -/
def pos (c : Dev nD) : Fin 4 := ⟨(c : Fin 32).val % 4, Nat.mod_lt _ (by decide)⟩

/-- The member of `c`'s group of four at place `q`. -/
def mate (c : Dev nD) (q : Fin 4) : Dev nD := ⟨(c : Fin 32).val / 4 * 4 + q.val, by
  have h1 : (c : Fin 32).val < 32 := (c : Fin 32).isLt
  have h2 := q.isLt
  show _ < 32
  omega⟩

theorem mate_pos (c : Dev nD) : mate c (pos c) = c := by revert c; decide +kernel

/-- The three first partners as members of the group. -/
abbrev quad (k : Fin 3) : Fin 7 := ⟨k.val, by omega⟩
/-- The three partners along the long axis. -/
abbrev far (k : Fin 3) : Fin 7 := ⟨k.val + 4, by omega⟩

theorem mate_quad (c : Dev nD) (k : Fin 3) : mate c (pos (par (quad k) c)) = par (quad k) c := by revert c k; decide +kernel

/-- The four places are a device's own and its three group partners'. -/
theorem pos_cases (c : Dev nD) : ∀ q : Fin 4, q = pos c ∨ ∃ k : Fin 3, q = pos (par (quad k) c) := by revert c; decide +kernel
theorem pos_quad_ne (c : Dev nD) (k : Fin 3) : pos (par (quad k) c) ≠ pos c := by revert c k; decide +kernel
theorem pos_quad_inj (c : Dev nD) : ∀ k k' : Fin 3, pos (par (quad k) c) = pos (par (quad k') c) → k = k' := by revert c; decide +kernel

/-! ## Row offsets -/

/-- The first row and column of block `(h, q)`. -/
abbrev qoff (h : Fin 2) (q : Fin 4) : Fin 2 → ℕ := ![128 * h.val + 32 * q.val, 0]

theorem off1_eq (c : Dev nD) (h : Fin 2) (k : Fin 3) :
    k0_off1 c (BitVec.ofNat 32 (128 * h.val)) (BitVec.ofNat 32 (1 + k.val)) = qoff h (pos (par (quad k) c)) := by
  have : ∀ a, k0_off1 c (BitVec.ofNat 32 (128 * h.val)) (BitVec.ofNat 32 (1 + k.val)) a = qoff h (pos (par (quad k) c)) a := by
    revert c h k; decide +kernel
  exact funext this
theorem off2_eq (c : Dev nD) (h : Fin 2) : k0_off2 c (BitVec.ofNat 32 (128 * h.val)) = qoff h (pos c) := by
  have : ∀ a, k0_off2 c (BitVec.ofNat 32 (128 * h.val)) a = qoff h (pos c) a := by revert c h; decide +kernel
  exact funext this
theorem off3_eq (c : Dev nD) (h : Fin 2) : k0_off3 c (BitVec.ofNat 32 (128 * h.val)) = qoff h (pos c) := by
  have : ∀ a, k0_off3 c (BitVec.ofNat 32 (128 * h.val)) a = qoff h (pos c) a := by revert c h; decide +kernel
  exact funext this

end Cert.AllReduce

end
-- ==== Proof.Blocks.lean ====
/-
# Blocks: the pieces of the kernel's arrays that move as one

Every copy moves a block of 32 × 256 numbers. A block lives in a slot `(h, k)` of a 2 × 3 array of slots, in a slot
`h` of a pair of slots, or in rows of a 256 × 256 array. Here: those pieces as views, what a view reads of an array
given block by block, that the pieces tile their array, and what a store of one block leaves.
-/
module

public import proofs.«01_k».proof.Proof.Mesh

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- A block of numbers. -/
abbrev Blk (F : FTy → Type) : Type := S32x256.Idx → Elt F .f32

/-- The index of a block by row and column. -/
def ix2 (a : Fin 32) (b : Fin 256) : S32x256.Idx := fun x => match x with | 0 => a | 1 => b

theorem ix2_self (j : S32x256.Idx) : ix2 (j 0) (j 1) = j := funext fun x => match x with | 0 => rfl | 1 => rfl

/-- An array of slots, given slot by slot. -/
def slotBuf (g : Fin 2 → Fin 3 → Blk F) : S2x3x32x256.Idx → Elt F .f32 := fun i => g (i 0) (i 1) (ix2 (i 2) (i 3))
/-- A pair of slots, given slot by slot. -/
def pairBuf (g : Fin 2 → Blk F) : S2x32x256.Idx → Elt F .f32 := fun i => g (i 0) (ix2 (i 1) (i 2))
/-- A 256 × 256 array, given block by block: row `128 h + 32 q + r` is row `r` of block `(h, q)`. -/
def rowBuf (g : Fin 2 → Fin 4 → Blk F) : S256x256.Idx → Elt F .f32 := fun i =>
  g ⟨(i 0).val / 128, Nat.div_lt_of_lt_mul (i 0).isLt⟩ ⟨(i 0).val % 128 / 32, Nat.div_lt_of_lt_mul (Nat.mod_lt _ (by decide))⟩
    (ix2 ⟨(i 0).val % 32, Nat.mod_lt _ (by decide)⟩ (i 1))

/-! ## The rectangles -/

theorem inb4 (h : Fin 2) (k : Fin 3) : ∀ a, (![h.val, k.val, 0, 0] : Fin 4 → ℕ) a + S1x1x32x256.size a ≤ S2x3x32x256.size a := by
  revert h k; decide
theorem inb3 (h : Fin 2) : ∀ a, (![h.val, 0, 0] : Fin 3 → ℕ) a + S1x32x256.size a ≤ S2x32x256.size a := by revert h; decide
theorem inb2 (h : Fin 2) (q : Fin 4) : ∀ a, qoff h q a + S32x256.size a ≤ S256x256.size a := by revert h q; decide

/-- Slot `(h, k)` of an array of slots. -/
abbrev slotR (h : Fin 2) (k : Fin 3) : Rect S2x3x32x256 := Rect.unit (s := S2x3x32x256) ![h.val, k.val, 0, 0] S1x1x32x256.size (inb4 h k)
/-- Slot `h` of a pair. -/
abbrev pairR (h : Fin 2) : Rect S2x32x256 := Rect.unit (s := S2x32x256) ![h.val, 0, 0] S1x32x256.size (inb3 h)
/-- The rows of block `(h, q)`. -/
abbrev rowR (h : Fin 2) (q : Fin 4) : Rect S256x256 := Rect.unit (s := S256x256) (qoff h q) S32x256.size (inb2 h q)

abbrev M4 : Type := Memref sig .tc .vmem S2x3x32x256 .f32
abbrev M3 : Type := Memref sig .tc .vmem S2x32x256 .f32
abbrev M2 : Type := Memref sig .tc .vmem S256x256 .f32
abbrev MB : Type := Memref sig .tc .vmem S32x256 .f32

abbrev xM : M2 := Memref.whole cc0_stg0_0
abbrev oM : M2 := Memref.whole cc0_stg1_0
abbrev accM : M4 := Memref.whole cc0_scratch0
abbrev rsM : M4 := Memref.whole cc0_scratch1
abbrev zM : M4 := Memref.whole cc0_scratch2
abbrev yM : M3 := Memref.whole cc0_scratch3

/-- A slot as a block. -/
abbrev slotM (M : M4) (h : Fin 2) (k : Fin 3) : MB := (M.slice (slotR h k) (fun _ => rfl)).squeeze S32x256 squeezes_S1x1x32x256_S32x256
/-- A slot of a pair as a block. -/
abbrev pairM (M : M3) (h : Fin 2) : MB := (M.slice (pairR h) (fun _ => rfl)).squeeze S32x256 squeezes_S1x32x256_S32x256
/-- The rows from offset `off` on as a block. -/
abbrev rowsM (M : M2) (off : Fin 2 → ℕ) (inb : ∀ a, off a + S32x256.size a ≤ S256x256.size a) : MB :=
  M.slice (Rect.unit (s := S256x256) off S32x256.size inb) (fun _ => rfl)

/-! ## Reading a block -/

/-- A block with two leading axes of one. -/
abbrev up4 (v : Blk F) : S1x1x32x256.Idx → Elt F .f32 := shapeCast S1x1x32x256 v shapeCasts_S32x256_S1x1x32x256

theorem re4 (h : S1x1x32x256.numel = S32x256.numel) (x : S1x1x32x256.Idx) : Shape.reshapeEquiv h x = ix2 (x 2) (x 3) := by
  refine Shape.reshapeEquiv_eq_of_vals _ _ _ _ _ (rowMajor_val2 _ 256 rfl) (rowMajor_val4 _ (32 * 256) (32 * 256) 256 rfl rfl rfl) ?_
  have h0 : (x 0).val = 0 := Nat.lt_one_iff.mp (x 0).isLt
  have h1 : (x 1).val = 0 := Nat.lt_one_iff.mp (x 1).isLt
  show (x 2).val * 256 + (x 3).val = _
  omega
theorem re3 (h : S1x32x256.numel = S32x256.numel) (x : S1x32x256.Idx) : Shape.reshapeEquiv h x = ix2 (x 1) (x 2) := by
  refine Shape.reshapeEquiv_eq_of_vals _ _ _ _ _ (rowMajor_val2 _ 256 rfl) (rowMajor_val3 _ (32 * 256) 256 rfl rfl) ?_
  have h0 : (x 0).val = 0 := Nat.lt_one_iff.mp (x 0).isLt
  show (x 1).val * 256 + (x 2).val = _
  omega

/-- A block with one leading axis of one. -/
abbrev up3 (v : Blk F) : S1x32x256.Idx → Elt F .f32 := shapeCast S1x32x256 v (by decide : S32x256.ShapeCasts S1x32x256)

theorem casts_S32x256_S1x32x256 : S32x256.ShapeCasts S1x32x256 := by decide

omit [FloatOps F] in
/-- An array given slot by slot, at the elements of slot `(h, k)`. -/
theorem slotBuf_emb (g : Fin 2 → Fin 3 → Blk F) (h : Fin 2) (k : Fin 3) (x : S1x1x32x256.Idx) : slotBuf g ((slotR h k).emb x) = up4 (g h k) x := by
  have h0 : (x 0).val = 0 := Nat.lt_one_iff.mp (x 0).isLt
  have h1 : (x 1).val = 0 := Nat.lt_one_iff.mp (x 1).isLt
  have e0 : (slotR h k).emb x 0 = h := Fin.ext (show h.val + 1 * (x 0).val = h.val by omega)
  have e1 : (slotR h k).emb x 1 = k := Fin.ext (show k.val + 1 * (x 1).val = k.val by omega)
  have e2 : (slotR h k).emb x 2 = x 2 := Fin.ext (show 0 + 1 * (x 2).val = (x 2).val by omega)
  have e3 : (slotR h k).emb x 3 = x 3 := Fin.ext (show 0 + 1 * (x 3).val = (x 3).val by omega)
  unfold slotBuf up4
  rw [e0, e1, e2, e3, Pointwise.shapeCast_apply, re4]

omit [FloatOps F] in
/-- A pair of slots given slot by slot, at the elements of slot `h`. -/
theorem pairBuf_emb (g : Fin 2 → Blk F) (h : Fin 2) (x : S1x32x256.Idx) : pairBuf g ((pairR h).emb x) = up3 (g h) x := by
  have h0 : (x 0).val = 0 := Nat.lt_one_iff.mp (x 0).isLt
  have e0 : (pairR h).emb x 0 = h := Fin.ext (show h.val + 1 * (x 0).val = h.val by omega)
  have e1 : (pairR h).emb x 1 = x 1 := Fin.ext (show 0 + 1 * (x 1).val = (x 1).val by omega)
  have e2 : (pairR h).emb x 2 = x 2 := Fin.ext (show 0 + 1 * (x 2).val = (x 2).val by omega)
  unfold pairBuf up3
  rw [e0, e1, e2, Pointwise.shapeCast_apply, re3]

omit [FloatOps F] in
/-- An array given block by block, at the rows of block `(h, q)`. -/
theorem rowBuf_emb (g : Fin 2 → Fin 4 → Blk F) (h : Fin 2) (q : Fin 4) (x : S32x256.Idx) : rowBuf g ((rowR h q).emb x) = g h q x := by
  have b0 : (x 0).val < 32 := (x 0).isLt
  have bq := q.isLt
  have v0 : ((rowR h q).emb x 0).val = 128 * h.val + 32 * q.val + (x 0).val := by
    show 128 * h.val + 32 * q.val + 1 * (x 0).val = _
    omega
  have e1 : (rowR h q).emb x 1 = x 1 := Fin.ext (show 0 + 1 * (x 1).val = (x 1).val by omega)
  unfold rowBuf
  rw [e1]
  have eh : (⟨((rowR h q).emb x 0).val / 128, Nat.div_lt_of_lt_mul ((rowR h q).emb x 0).isLt⟩ : Fin 2) = h := Fin.ext (by
    show ((rowR h q).emb x 0).val / 128 = h.val
    rw [v0]; omega)
  have eq : (⟨((rowR h q).emb x 0).val % 128 / 32, Nat.div_lt_of_lt_mul (Nat.mod_lt _ (by decide))⟩ : Fin 4) = q := Fin.ext (by
    show ((rowR h q).emb x 0).val % 128 / 32 = q.val
    rw [v0]; omega)
  have er : (⟨((rowR h q).emb x 0).val % 32, Nat.mod_lt _ (by decide)⟩ : Fin 32) = x 0 := Fin.ext (by
    show ((rowR h q).emb x 0).val % 32 = (x 0).val
    rw [v0]; omega)
  rw [eh, eq, er, ix2_self]

section Read
variable (g : Fin 2 → Fin 3 → Blk F) (p : Fin 2 → Blk F) (r : Fin 2 → Fin 4 → Blk F) (h : Fin 2) (k : Fin 3) (q : Fin 4)

omit [FloatOps F] in
theorem load_acc : (accM.access (slotR h k) : View sig .tc _ _ _).read (Elt F) (slotBuf g) = up4 (g h k) := funext fun x => slotBuf_emb g h k x
omit [FloatOps F] in
theorem load_rs : (rsM.access (slotR h k) : View sig .tc _ _ _).read (Elt F) (slotBuf g) = up4 (g h k) := funext fun x => slotBuf_emb g h k x
omit [FloatOps F] in
theorem load_z : (zM.access (slotR h k) : View sig .tc _ _ _).read (Elt F) (slotBuf g) = up4 (g h k) := funext fun x => slotBuf_emb g h k x
omit [FloatOps F] in
theorem load_y : (yM.access (pairR h) : View sig .tc _ _ _).read (Elt F) (pairBuf p) = up3 (p h) := funext fun x => pairBuf_emb p h x
omit [FloatOps F] in
theorem load_o : (oM.access (rowR h q) : View sig .tc _ _ _).read (Elt F) (rowBuf r) = r h q := funext fun x => rowBuf_emb r h q x

omit [FloatOps F] in
/-- The axes of one taken off again. -/
theorem down4 (v : Blk F) (j : S32x256.Idx) (hn : S32x256.numel = S1x1x32x256.numel) : up4 v (Shape.reshapeEquiv hn j) = v j := by
  unfold up4; rw [Pointwise.shapeCast_apply, Shape.reshapeEquiv_reshapeEquiv, Shape.reshapeEquiv_self]
omit [FloatOps F] in
theorem down3 (v : Blk F) (j : S32x256.Idx) (hn : S32x256.numel = S1x32x256.numel) : up3 v (Shape.reshapeEquiv hn j) = v j := by
  unfold up3; rw [Pointwise.shapeCast_apply, Shape.reshapeEquiv_reshapeEquiv, Shape.reshapeEquiv_self]

omit [FloatOps F] in
theorem read_acc : (slotM accM h k).view.read (Elt F) (slotBuf g) = g h k := funext fun j => (slotBuf_emb g h k _).trans (down4 _ j _)
omit [FloatOps F] in
theorem read_rs : (slotM rsM h k).view.read (Elt F) (slotBuf g) = g h k := funext fun j => (slotBuf_emb g h k _).trans (down4 _ j _)
omit [FloatOps F] in
theorem read_z : (slotM zM h k).view.read (Elt F) (slotBuf g) = g h k := funext fun j => (slotBuf_emb g h k _).trans (down4 _ j _)
omit [FloatOps F] in
theorem read_y : (pairM yM h).view.read (Elt F) (pairBuf p) = p h := funext fun j => (pairBuf_emb p h _).trans (down3 _ j _)
omit [FloatOps F] in
theorem read_o {off : Fin 2 → ℕ} (inb) (ho : off = qoff h q) : (rowsM oM off inb).view.read (Elt F) (rowBuf r) = r h q := by
  subst ho; exact funext fun x => rowBuf_emb r h q x

end Read

/-! ## Writing a block -/

omit [FloatOps F] in
/-- Writing through a view what the view reads of `g` leaves `g` at the view's elements. -/
theorem write_eq {κ : Kind} {sp : Space} {s : Shape} {e : EltTy} (V : View sig κ sp s e) (f g : V.ty.Contents (Elt F)) (w : s.Idx → Elt F e)
    (hw : V.read (Elt F) g = w) : ∀ i ∈ V.set, V.write (Elt F) f w Finset.univ i = g i := by
  intro i hi
  obtain ⟨x, -, rfl⟩ := Finset.mem_map.mp hi
  exact View.eq_of_read_eq ((View.read_write_of_mem f w (Finset.mem_univ x)).trans (congrFun hw x).symm)

/-! ## The pieces tile their array -/

theorem slot_cover : (Finset.univ : Finset S2x3x32x256.Idx) = (Finset.univ : Finset (Fin 2 × Fin 3)).biUnion fun p => (slotR p.1 p.2).set := by
  ext i
  simp only [Finset.mem_univ, Finset.mem_biUnion, true_and, true_iff]
  exact ⟨(i 0, i 1), Rect.mem_set_unit.mpr fun a => by
    match a with
    | 0 => exact ⟨Nat.le_refl _, Nat.lt_succ_self _⟩
    | 1 => exact ⟨Nat.le_refl _, Nat.lt_succ_self _⟩
    | 2 => exact ⟨Nat.zero_le _, by have := (i 2).isLt; exact (Nat.zero_add _).symm ▸ this⟩
    | 3 => exact ⟨Nat.zero_le _, by have := (i 3).isLt; exact (Nat.zero_add _).symm ▸ this⟩⟩
theorem slot_disj : ∀ p ∈ (Finset.univ : Finset (Fin 2 × Fin 3)), ∀ p' ∈ (Finset.univ : Finset (Fin 2 × Fin 3)), p ≠ p' → Disjoint (slotR p.1 p.2).set (slotR p'.1 p'.2).set := by
  intro p _ p' _ hne
  rw [Finset.disjoint_left]
  intro i hi hi'
  have h1 := Rect.mem_set_unit.mp hi
  have h2 := Rect.mem_set_unit.mp hi'
  have a0 : p.1.val ≤ (i 0).val ∧ (i 0).val < p.1.val + 1 := h1 0
  have a1 : p.2.val ≤ (i 1).val ∧ (i 1).val < p.2.val + 1 := h1 1
  have b0 : p'.1.val ≤ (i 0).val ∧ (i 0).val < p'.1.val + 1 := h2 0
  have b1 : p'.2.val ≤ (i 1).val ∧ (i 1).val < p'.2.val + 1 := h2 1
  exact hne (Prod.ext (Fin.ext (by omega)) (Fin.ext (by omega)))

theorem pair_cover : (Finset.univ : Finset S2x32x256.Idx) = (Finset.univ : Finset (Fin 2)).biUnion fun p => (pairR p).set := by
  ext i
  simp only [Finset.mem_univ, Finset.mem_biUnion, true_and, true_iff]
  exact ⟨i 0, Rect.mem_set_unit.mpr fun a => by
    match a with
    | 0 => exact ⟨Nat.le_refl _, Nat.lt_succ_self _⟩
    | 1 => exact ⟨Nat.zero_le _, by have := (i 1).isLt; exact (Nat.zero_add _).symm ▸ this⟩
    | 2 => exact ⟨Nat.zero_le _, by have := (i 2).isLt; exact (Nat.zero_add _).symm ▸ this⟩⟩
theorem pair_disj : ∀ p ∈ (Finset.univ : Finset (Fin 2)), ∀ p' ∈ (Finset.univ : Finset (Fin 2)), p ≠ p' → Disjoint (pairR p).set (pairR p').set := by
  intro p _ p' _ hne
  rw [Finset.disjoint_left]
  intro i hi hi'
  have a0 : p.val ≤ (i 0).val ∧ (i 0).val < p.val + 1 := Rect.mem_set_unit.mp hi 0
  have b0 : p'.val ≤ (i 0).val ∧ (i 0).val < p'.val + 1 := Rect.mem_set_unit.mp hi' 0
  exact hne (Fin.ext (by omega))

theorem row_cover : (Finset.univ : Finset S256x256.Idx) = (Finset.univ : Finset (Fin 2 × Fin 4)).biUnion fun p => (rowR p.1 p.2).set := by
  ext i
  simp only [Finset.mem_univ, Finset.mem_biUnion, true_and, true_iff]
  have hb : (i 0).val < 256 := (i 0).isLt
  refine ⟨(⟨(i 0).val / 128, by omega⟩, ⟨(i 0).val % 128 / 32, by omega⟩), Rect.mem_set_unit.mpr fun a => ?_⟩
  match a with
  | 0 =>
    show 128 * ((i 0).val / 128) + 32 * ((i 0).val % 128 / 32) ≤ (i 0).val ∧ (i 0).val < 128 * ((i 0).val / 128) + 32 * ((i 0).val % 128 / 32) + 32
    omega
  | 1 => exact ⟨Nat.zero_le _, by have := (i 1).isLt; exact (Nat.zero_add _).symm ▸ this⟩
theorem row_disj : ∀ p ∈ (Finset.univ : Finset (Fin 2 × Fin 4)), ∀ p' ∈ (Finset.univ : Finset (Fin 2 × Fin 4)), p ≠ p' → Disjoint (rowR p.1 p.2).set (rowR p'.1 p'.2).set := by
  intro p _ p' _ hne
  rw [Finset.disjoint_left]
  intro i hi hi'
  have a0 : 128 * p.1.val + 32 * p.2.val ≤ (i 0).val ∧ (i 0).val < 128 * p.1.val + 32 * p.2.val + 32 := Rect.mem_set_unit.mp hi 0
  have b0 : 128 * p'.1.val + 32 * p'.2.val ≤ (i 0).val ∧ (i 0).val < 128 * p'.1.val + 32 * p'.2.val + 32 := Rect.mem_set_unit.mp hi' 0
  have := p.2.isLt
  have := p'.2.isLt
  exact hne (Prod.ext (Fin.ext (by omega)) (Fin.ext (by omega)))

end Cert.AllReduce

end
-- ==== Proof.Protocol.lean ====
/-
# The protocol: the twenty copies of each device, and what each hands over

A device starts with a handshake on the barrier semaphore: it tells each of its seven partners that the places the
partner will write on it are free, and waits for the seven of its own. Then it makes twenty copies, each onto one
partner, each completing on a semaphore of its own at either end:

* `rs h k`: the rows of its `x` that belong to the `k`-th group partner, half `h`;
* `z h k`: a partial sum, to the `k`-th partner along the long axis;
* `y h`: a partial sum, to the partner in the other group of its pair;
* `ag h k`: the finished rows, to the `k`-th group partner.

Each semaphore is waited on once. The contents handed over at each landing are written out here: what every array of
every device holds, block by block, once it is filled.
-/
module

public import proofs.«01_k».proof.Proof.Blocks

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The copies and their semaphores -/

/-- The twenty copies a device makes. -/
inductive T where
  | rs (h : Fin 2) (k : Fin 3)
  | z (h : Fin 2) (k : Fin 3)
  | y (h : Fin 2)
  | ag (h : Fin 2) (k : Fin 3)
  deriving DecidableEq

/-- The copies in the order a device issues them. -/
abbrev Ts : List T :=
  [.rs 0 0, .rs 0 1, .rs 0 2, .rs 1 0, .rs 1 1, .rs 1 2, .z 0 0, .z 0 1, .z 0 2, .y 1, .y 0, .z 1 0, .z 1 1, .z 1 2,
   .ag 0 0, .ag 0 1, .ag 0 2, .ag 1 0, .ag 1 1, .ag 1 2]

instance : Fintype T where
  elems := ⟨Ts, by decide⟩
  complete := fun t => by
    cases t with
    | rs h k => revert h k; decide
    | z h k => revert h k; decide
    | y h => revert h; decide
    | ag h k => revert h k; decide

/-- Which of the seven partners a copy goes to. -/
def dir : T → Fin 7
  | .rs _ k => quad k
  | .z _ k => far k
  | .y _ => 3
  | .ag _ k => quad k

/-- The device at the other end of a copy. -/
abbrev peer (t : T) (c : Dev nD) : Dev nD := par (dir t) c
theorem peer_peer (t : T) (c : Dev nD) : peer t (peer t c) = c := par_par _ _

theorem inbS (h : Fin 2) (k : Fin 3) : ∀ a, (![h.val, k.val] : Fin 2 → ℕ) a + S1x1.size a ≤ S2x3.size a := by revert h k; decide
theorem inbP (h : Fin 2) : ∀ a, (![h.val] : Fin 1 → ℕ) a + S1.size a ≤ S2.size a := by revert h; decide

/-- One semaphore of a 2 × 3 array. -/
abbrev semAt (a : DmaSems sig S2x3) (h : Fin 2) (k : Fin 3) : DmaSem sig :=
  ((a.slice (Rect.unit (s := S2x3) ![h.val, k.val] S1x1.size (inbS h k))).squeeze S_ squeezes_S1x1_S_).sem
/-- One semaphore of a pair. -/
abbrev semPair (a : DmaSems sig S2) (h : Fin 2) : DmaSem sig :=
  ((a.slice (Rect.unit (s := S2) ![h.val] S1.size (inbP h))).squeeze S_ squeezes_S1_S_).sem

/-- The semaphore a copy raises on its sender when the source has been read. -/
abbrev sendSem : T → DmaSem sig
  | .rs h k => semAt cc0_scratch4 h k
  | .z h k => semAt cc0_scratch6 h k
  | .y h => semPair cc0_scratch8 h
  | .ag h k => semAt cc0_scratch10 h k
/-- The semaphore a copy raises on its receiver when it has landed. -/
abbrev recvSem : T → DmaSem sig
  | .rs h k => semAt cc0_scratch5 h k
  | .z h k => semAt cc0_scratch7 h k
  | .y h => semPair cc0_scratch9 h
  | .ag h k => semAt cc0_scratch11 h k

theorem sendSem_inj : Function.Injective sendSem := by decide +kernel
theorem recvSem_inj : Function.Injective recvSem := by decide +kernel
theorem send_ne_recv : ∀ t t', sendSem t ≠ recvSem t' := by decide +kernel
theorem two_le_send : ∀ t, 2 ≤ (sendSem t).val := by decide +kernel
theorem two_le_recv : ∀ t, 2 ≤ (recvSem t).val := by decide +kernel

/-- The barrier semaphore. -/
abbrev barS : Sem sig := (SemArray.scalar (sig.barrier 0 rfl) : Sems sig S_).sem

abbrev barCell (c : Dev nD) : GSem nD τ sig := ((c : Thread nD τ), .reg barS)
abbrev sendCell (t : T) (c : Dev nD) : GSem nD τ sig := ((c : Thread nD τ), .dma (sendSem t))
abbrev recvCell (t : T) (c : Dev nD) : GSem nD τ sig := ((c : Thread nD τ), .dma (recvSem t))

/-! ## The blocks a copy reads and writes -/

/-- The accumulator slot a `z` copy of half `h` reads, and the one a `y` copy reads. -/
abbrev zk : Fin 2 → Fin 3 := ![0, 1]
abbrev yk : Fin 2 → Fin 3 := ![1, 0]

/-- The block copy `t` of device `c` reads, on `c`. -/
abbrev srcM : T → Dev nD → MB
  | .rs h k, c => rowsM xM (k0_off1 c (BitVec.ofNat 32 (128 * h.val)) (BitVec.ofNat 32 (1 + k.val))) (k0_off1_inb c h k)
  | .z h _, _ => slotM accM h (zk h)
  | .y h, _ => slotM accM h (yk h)
  | .ag h _, c => rowsM oM (k0_off3 c (BitVec.ofNat 32 (128 * h.val))) (k0_off3_inb c h)
/-- The block copy `t` of device `c` writes, on its partner. -/
abbrev landM : T → Dev nD → MB
  | .rs h k, _ => slotM rsM h k
  | .z h k, _ => slotM zM h k
  | .y h, _ => pairM yM h
  | .ag h _, c => rowsM oM (k0_off3 c (BitVec.ofNat 32 (128 * h.val))) (k0_off3_inb c h)

/-- What one copy of a block adds to a semaphore. -/
abbrev N : ℕ := (slotM rsM 0 0).view.dmaCredit
theorem N_pos : 0 < N := View.dmaCredit_pos _ (by decide)
theorem src_credit (t : T) (c : Dev nD) : (srcM t c).view.dmaCredit = N := by cases t <;> rfl
theorem land_credit (t : T) (c : Dev nD) : (landM t c).view.dmaCredit = N := by cases t <;> rfl

/-! ## The contents -/

variable (m : (ℓ : Loc nD τ sig) → Buf (Elt F) ℓ)

/-- Device `c`'s `x`. -/
def xB (c : Dev nD) : (cc0_stg0_0 : Ref sig .tc).ty.Contents (Elt F) :=
  (win0_0.blk (0 : Fin 1)).view.read (Elt F) (m ((c : Thread nD τ).loc main_arg0))

/-- Rows `(h, q)` of it. -/
def X (c : Dev nD) (h : Fin 2) (q : Fin 4) : Blk F := (rowsM xM (qoff h q) (inb2 h q)).view.read (Elt F) (xB m c)

/-- A device's block plus its three group partners', in the order the kernel adds them. -/
def quadSum (g : Dev nD → Blk F) (c : Dev nD) : Blk F := addf (addf (addf (g c) (g (par 0 c))) (g (par 1 c))) (g (par 2 c))
/-- A device's block plus its three partners' along the long axis. -/
def farSum (g : Dev nD → Blk F) (c : Dev nD) : Blk F := addf (addf (addf (g c) (g (par 4 c))) (g (par 5 c))) (g (par 6 c))
/-- A device's block plus its pair partner's. -/
def pairSum (g : Dev nD → Blk F) (c : Dev nD) : Blk F := addf (g c) (g (par 3 c))

/-- The three partial sums of half `h` on device `c`: over the group of four; then, for half 0 along the long axis and
    for half 1 over the pair; then the other one. -/
def acc0 (h : Fin 2) (c : Dev nD) : Blk F := quadSum (fun d => X m d h (pos c)) c
def acc1 : Fin 2 → Dev nD → Blk F := ![farSum (acc0 m 0), pairSum (acc0 m 1)]
def acc2 : Fin 2 → Dev nD → Blk F := ![pairSum (acc1 m 0), farSum (acc1 m 1)]
def acc (c : Dev nD) (h : Fin 2) : Fin 3 → Blk F := ![acc0 m h c, acc1 m h c, acc2 m h c]

/-- What the arrays hold once filled. -/
def accB (c : Dev nD) : S2x3x32x256.Idx → Elt F .f32 := slotBuf (acc m c)
def rsB (c : Dev nD) : S2x3x32x256.Idx → Elt F .f32 := slotBuf fun h k => X m (par (quad k) c) h (pos c)
def zB (c : Dev nD) : S2x3x32x256.Idx → Elt F .f32 := slotBuf fun h k => acc m (par (far k) c) h (zk h)
def yB (c : Dev nD) : S2x32x256.Idx → Elt F .f32 := pairBuf fun h => acc m (par 3 c) h (yk h)
def outB (c : Dev nD) : S256x256.Idx → Elt F .f32 := rowBuf fun h q => acc m (mate c q) h 2

/-- The contents of the array copy `t` reads on `c`, -/
def srcB : (t : T) → (c : Dev nD) → Buf (Elt F) ((srcM t c).view.loc (c : Thread nD τ))
  | .rs _ _, c => xB m c
  | .z _ _, c => accB m c
  | .y _, c => accB m c
  | .ag _ _, c => outB m c
/-- and of the array `s`'s copy `t` writes, on `r`. -/
def landB : (t : T) → (s r : Dev nD) → Buf (Elt F) ((landM t s).view.loc (r : Thread nD τ))
  | .rs _ _, _, r => rsB m r
  | .z _ _, _, r => zB m r
  | .y _, _, r => yB m r
  | .ag _ _, _, r => outB m r

/-! What a landing holds, and what a source holds, as a block. -/

theorem land_rs (h : Fin 2) (k : Fin 3) (s r : Dev nD) :
    (landM (.rs h k) s).view.read (Elt F) (landB m (.rs h k) s r) = X m (par (quad k) r) h (pos r) :=
  read_rs (fun h k => X m (par (quad k) r) h (pos r)) h k
theorem land_z (h : Fin 2) (k : Fin 3) (s r : Dev nD) :
    (landM (.z h k) s).view.read (Elt F) (landB m (.z h k) s r) = acc m (par (far k) r) h (zk h) :=
  read_z (fun h k => acc m (par (far k) r) h (zk h)) h k
theorem land_y (h : Fin 2) (s r : Dev nD) :
    (landM (.y h) s).view.read (Elt F) (landB m (.y h) s r) = acc m (par 3 r) h (yk h) :=
  read_y (fun h => acc m (par 3 r) h (yk h)) h
theorem land_ag (h : Fin 2) (k : Fin 3) (s r : Dev nD) :
    (landM (.ag h k) s).view.read (Elt F) (landB m (.ag h k) s r) = acc m (mate r (pos s)) h 2 :=
  read_o (fun h q => acc m (mate r q) h 2) h (pos s) (k0_off3_inb s h) (off3_eq s h)

theorem rows_read (M : M2) (f : M.view.ty.Contents (Elt F)) {off off' : Fin 2 → ℕ} (inb inb') (e : off = off') :
    (rowsM M off inb).view.read (Elt F) f = (rowsM M off' inb').view.read (Elt F) f := by subst e; rfl

theorem src_rs (h : Fin 2) (k : Fin 3) (c : Dev nD) :
    (srcM (.rs h k) c).view.read (Elt F) (srcB m (.rs h k) c) = X m c h (pos (par (quad k) c)) :=
  rows_read xM (xB m c) (k0_off1_inb c h k) (inb2 h _) (off1_eq c h k)
theorem src_z (h : Fin 2) (k : Fin 3) (c : Dev nD) :
    (srcM (.z h k) c).view.read (Elt F) (srcB m (.z h k) c) = acc m c h (zk h) :=
  read_acc (acc m c) h (zk h)
theorem src_y (h : Fin 2) (c : Dev nD) :
    (srcM (.y h) c).view.read (Elt F) (srcB m (.y h) c) = acc m c h (yk h) :=
  read_acc (acc m c) h (yk h)
theorem src_ag (h : Fin 2) (k : Fin 3) (c : Dev nD) :
    (srcM (.ag h k) c).view.read (Elt F) (srcB m (.ag h k) c) = acc m (mate c (pos c)) h 2 :=
  read_o (fun h q => acc m (mate c q) h 2) h (pos c) (k0_off3_inb c h) (off3_eq c h)

/-- A copy lands what it reads. -/
theorem block_eq (t : T) (c : Dev nD) :
    (landM t c).view.read (Elt F) (landB m t c (peer t c)) = (srcM t c).view.read (Elt F) (srcB m t c) := by
  cases t with
  | rs h k =>
    refine (land_rs m h k c _).trans (Eq.trans ?_ (src_rs m h k c).symm)
    exact congrArg (fun d => X m d h (pos (par (quad k) c))) (par_par (quad k) c)
  | z h k =>
    refine (land_z m h k c _).trans (Eq.trans ?_ (src_z m h k c).symm)
    exact congrArg (fun d => acc m d h (zk h)) (par_par (far k) c)
  | y h =>
    refine (land_y m h c _).trans (Eq.trans ?_ (src_y m h c).symm)
    exact congrArg (fun d => acc m d h (yk h)) (par_par 3 c)
  | ag h k =>
    refine (land_ag m h k c _).trans (Eq.trans ?_ (src_ag m h k c).symm)
    have e := mate_quad (par (quad k) c) k
    rw [par_par] at e
    rw [show mate (peer (T.ag h k) c) (pos c) = c from e, mate_pos]

end Cert.AllReduce

end
-- ==== Proof.Schedule.lean ====
/-
# The schedule of the semaphores

Every semaphore is used for one round. A barrier semaphore collects seven units, one from each partner, and the unit of
the `i`-th partner brings the places on that partner that the copies to it write. A copy's two semaphores each collect the
credit of one block: on the sender it brings back the share of the source that was lent to the copy, on the receiver it
brings the block that landed. What a device still owes is a list, in the order in which it pays; a wait is allowed
when everything still owed lies above it.
-/
module

public import proofs.«01_k».proof.Proof.Protocol

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A separating conjunction over disjoint groups, group by group. -/
theorem bigSep_groups {I J : Type} [DecidableEq I] [DecidableEq J] (s : Finset J) (t : J → Finset I)
    (hd : ∀ i ∈ s, ∀ j ∈ s, i ≠ j → Disjoint (t i) (t j)) (Φ : I → sProp 𝕄) :
    bigSep (s.biUnion t) Φ = bigSep s fun j => bigSep (t j) Φ := by
  induction s using Finset.induction_on with
  | empty => rfl
  | insert j s hj ih =>
    rw [Finset.biUnion_insert, bigSep_union, bigSep_insert hj,
      ih fun a ha b hb => hd a (Finset.mem_insert_of_mem ha) b (Finset.mem_insert_of_mem hb)]
    exact (Finset.disjoint_biUnion_right _ _ _).mpr fun b hb =>
      hd j (Finset.mem_insert_self _ _) b (Finset.mem_insert_of_mem hb) fun e => hj (e ▸ hb)

variable (m : (ℓ : Loc nD τ sig) → Buf (Elt F) ℓ)

/-! ## What the semaphores hand over -/

/-- The share of its source a copy is lent: all of it where one copy reads the block, a part where the block is also read
    by other copies or by the device itself meanwhile. -/
def shr : T → PosShare TreeShare
  | .rs _ _ => fullShare
  | .z _ k => shareTokN fullShare k.val
  | .y _ => shareTokN fullShare 0
  | .ag _ k => shareTokN fullShare k.val

/-- The source of copy `t` of device `c`, at the share lent to the copy. -/
def srcPts (t : T) (c : Dev nD) : sProp 𝕄 :=
  (srcM t c).view.loc (c : Thread nD τ) ↦[(srcM t c).view.set]{shr t} srcB m t c
/-- The place on `r` that `s`'s copy `t` writes, holding `f`. -/
def landPts (t : T) (s r : Dev nD) (f : Buf (Elt F) ((landM t s).view.loc (r : Thread nD τ))) : sProp 𝕄 :=
  (landM t s).view.loc (r : Thread nD τ) ↦[(landM t s).view.set]{fullShare} f
/-- The same place, free to be written. -/
def landAny (t : T) (s r : Dev nD) : sProp 𝕄 := iprop(∃ f, landPts t s r f)
/-- The places on the `i`-th partner that the copies of `c` to it write. -/
def barPay (c : Dev nD) (i : Fin 7) : sProp 𝕄 := bigSep (Finset.univ.filter fun t => dir t = i) fun t => landAny t c (peer t c)
/-- The block that landed on `r` by its partner's copy `t`. -/
def landPay (t : T) (r : Dev nD) : sProp 𝕄 := landPts t (peer t r) r (landB m t (peer t r) r)

instance srcPts_storable (t : T) (c : Dev nD) : BI.Storable (upEmb : UEmb _ 𝕄) (srcPts (F := F) m t c) := by
  unfold srcPts; infer_instance
instance landPts_storable (t : T) (s r : Dev nD) (f) : BI.Storable (upEmb : UEmb _ 𝕄) (landPts (F := F) t s r f) := by
  unfold landPts; infer_instance
instance landAny_storable (t : T) (s r : Dev nD) : BI.Storable (upEmb : UEmb _ 𝕄) (landAny (F := F) t s r) := by
  unfold landAny; infer_instance
instance landPay_storable (t : T) (r : Dev nD) : BI.Storable (upEmb : UEmb _ 𝕄) (landPay (F := F) m t r) := by
  unfold landPay; infer_instance
instance barPay_storable (c : Dev nD) (i : Fin 7) : BI.Storable (upEmb : UEmb _ 𝕄) (barPay (F := F) c i) := by
  unfold barPay; infer_instance

/-! ## The schedule -/

/-- The duties of a semaphore: seven on a barrier, one on a copy's semaphore, none on the pipeline's. -/
def dutiesOf : SemLoc sig → Finset (Fin 7)
  | .reg s => if s = barS then Finset.univ else ∅
  | .dma i => if 2 ≤ i.val then {0} else ∅
def amountOn : SemLoc sig → ℕ
  | .reg _ => 1
  | .dma _ => N
def payOf (c : Dev nD) (d : Fin 7) : SemLoc sig → sProp 𝕄
  | .reg _ => barPay c d
  | .dma i => iprop(bigSep (Finset.univ.filter fun t => sendSem t = i) (fun t => srcPts m t c)
      ∗ bigSep (Finset.univ.filter fun t => recvSem t = i) (fun t => landPay m t c))

/-- The schedule: one round of every semaphore. -/
def rd : Rounds.Schedule (GSem nD τ sig) (Fin 7) 𝕄 where
  duties g r := if r = 0 ∧ g.1.2 = .tc then dutiesOf g.2 else ∅
  unitless _ := False
  amount g _ _ := amountOn g.2
  payload g _ d := payOf m g.1.1 d g.2
  amount_pos g _ _ _ := by
    cases h : g.2 with
    | reg s => exact Nat.one_pos
    | dma i => exact N_pos

instance rd_payload_storable (g : GSem nD τ sig) (r : ℕ) (d : Fin 7) : BI.Storable (upEmb : UEmb _ 𝕄) ((rd (F := F) m).payload g r d) := by
  show BI.Storable upEmb (payOf m g.1.1 d g.2)
  cases g.2 with
  | reg s => unfold payOf; infer_instance
  | dma i =>
    unfold payOf
    infer_instance

section Sched
variable (t : T) (c : Dev nD)

theorem duties_bar : (rd (F := F) m).duties (barCell c) 0 = Finset.univ := by dsimp only [rd]; rw [if_pos ⟨rfl, rfl⟩]; unfold dutiesOf; exact if_pos rfl
theorem duties_send : (rd (F := F) m).duties (sendCell t c) 0 = {0} := by dsimp only [rd]; rw [if_pos ⟨rfl, rfl⟩]; exact if_pos (two_le_send t)
theorem duties_recv : (rd (F := F) m).duties (recvCell t c) 0 = {0} := by dsimp only [rd]; rw [if_pos ⟨rfl, rfl⟩]; exact if_pos (two_le_recv t)
theorem duties_later (g : GSem nD τ sig) : ∀ r, 1 ≤ r → (rd (F := F) m).duties g r = ∅ :=
  fun r hr => if_neg fun h => by have := h.1; omega

theorem expect_bar : (rd (F := F) m).expect (barCell c) 0 = 7 := by
  unfold Schedule.expect Schedule.amountOf
  rw [duties_bar]
  exact (Finset.sum_const 1).trans (by decide)
theorem expect_send : (rd (F := F) m).expect (sendCell t c) 0 = N := by
  unfold Schedule.expect Schedule.amountOf
  rw [duties_send, Finset.sum_singleton]; rfl
theorem expect_recv : (rd (F := F) m).expect (recvCell t c) 0 = N := by
  unfold Schedule.expect Schedule.amountOf
  rw [duties_recv, Finset.sum_singleton]; rfl

theorem only {f : T → DmaSem sig} (hf : Function.Injective f) (t : T) : (Finset.univ.filter fun t' => f t' = f t) = {t} := by
  ext t'
  rw [Finset.mem_filter, Finset.mem_singleton]
  exact ⟨fun h => hf h.2, fun h => ⟨Finset.mem_univ _, h ▸ rfl⟩⟩
theorem no_send (t : T) : (Finset.univ.filter fun t' => sendSem t' = recvSem t) = ∅ :=
  Finset.filter_eq_empty_iff.mpr fun t' _ h => send_ne_recv t' t h
theorem no_recv (t : T) : (Finset.univ.filter fun t' => recvSem t' = sendSem t) = ∅ :=
  Finset.filter_eq_empty_iff.mpr fun t' _ h => send_ne_recv t t' h.symm

theorem payload_send (d : Fin 7) : (rd (F := F) m).payload (sendCell t c) 0 d = srcPts m t c := by
  show iprop(bigSep (Finset.univ.filter fun t' => sendSem t' = sendSem t) (fun t => srcPts m t c)
      ∗ bigSep (Finset.univ.filter fun t' => recvSem t' = sendSem t) (fun t => landPay m t c)) = srcPts m t c
  rw [only sendSem_inj, no_recv, bigSep_singleton, bigSep_empty]
  exact BI.equiv_iff.mp sep_emp
theorem payload_recv (d : Fin 7) : (rd (F := F) m).payload (recvCell t c) 0 d = landPay m t c := by
  show iprop(bigSep (Finset.univ.filter fun t' => sendSem t' = recvSem t) (fun t => srcPts m t c)
      ∗ bigSep (Finset.univ.filter fun t' => recvSem t' = recvSem t) (fun t => landPay m t c)) = landPay m t c
  rw [only recvSem_inj, no_send, bigSep_singleton, bigSep_empty]
  exact BI.equiv_iff.mp emp_sep

/-- All the barrier brings: the places the twenty copies of `c` write. -/
theorem rest_bar : bigSep ((rd (F := F) m).duties (barCell c) 0 \ ∅) (fun d => (rd (F := F) m).payload (barCell c) 0 d)
    = bigSep Finset.univ fun t => landAny t c (peer t c) := by
  rw [Finset.sdiff_empty, duties_bar]
  show bigSep Finset.univ (fun d => barPay c d) = _
  unfold barPay
  rw [← bigSep_groups]
  · exact congrArg (fun s => bigSep s _) (by ext t; simp)
  · intro i _ j _ hij
    exact Finset.disjoint_filter.mpr fun t _ h1 h2 => hij (h1.symm.trans h2)
theorem rest_send : bigSep ((rd (F := F) m).duties (sendCell t c) 0 \ ∅) (fun d => (rd (F := F) m).payload (sendCell t c) 0 d) = srcPts m t c := by
  rw [Finset.sdiff_empty, duties_send, bigSep_singleton, payload_send]
theorem rest_recv : bigSep ((rd (F := F) m).duties (recvCell t c) 0 \ ∅) (fun d => (rd (F := F) m).payload (recvCell t c) 0 d) = landPay m t c := by
  rw [Finset.sdiff_empty, duties_recv, bigSep_singleton, payload_recv]

/-- What the signal of `c` to its `i`-th partner hands over: the places on `c` that the partner writes. -/
theorem payload_signal (i : Fin 7) : (rd (F := F) m).payload (barCell (par i c)) 0 i
    = bigSep (Finset.univ.filter fun t => dir t = i) fun t => landAny t (peer t c) c := by
  show barPay (par i c) i = _
  unfold barPay
  refine bigSep_congr fun t ht => ?_
  have e : dir t = i := (Finset.mem_filter.mp ht).2
  subst e
  exact congrArg₂ (fun a b => landAny t a b) rfl (par_par (dir t) c)

end Sched

/-! ## What a device owes, and the levels -/

/-- One payment: a unit on a partner's barrier, or a block's credit on the receiver of a copy. -/
abbrev Item : Type := Fin 7 ⊕ T
/-- All payments, in the order they are made. -/
abbrev items : List Item := [0, 1, 2, 3, 4, 5, 6].map Sum.inl ++ Ts.map Sum.inr

abbrev itemSem : Item → SemLoc sig
  | .inl _ => .reg barS
  | .inr t => .dma (recvSem t)
abbrev itemDev (c : Dev nD) : Item → Dev nD
  | .inl i => par i c
  | .inr t => peer t c
abbrev itemAmt : Item → ℕ
  | .inl _ => 1
  | .inr _ => N
abbrev itemCell (c : Dev nD) (a : Item) : GSem nD τ sig := ((itemDev c a : Thread nD τ), itemSem a)
def item (c : Dev nD) (a : Item) : CellTallies nD τ sig Unit := tallyAt (itemCell c a) () (itemAmt a)

/-- What is owed while the payments of a list are still to be made. -/
def owed (c : Dev nD) : List Item → CellTallies nD τ sig Unit
  | [] => 0
  | a :: l => owed c l + item c a

def L (g : GSem nD τ sig) : Finset Unit := if g.1.2 = .tc then {()} else ∅
/-- The level of a semaphore. -/
def lvS : SemLoc sig → ℕ
  | .reg _ => 1
  | .dma i => if 36 ≤ i.val then 7 else if i.val = 29 then 4 else if i.val = 28 then 5 else if 23 ≤ i.val ∧ i.val < 26 then 6
      else if 20 ≤ i.val ∧ i.val < 23 then 3 else if 8 ≤ i.val ∧ i.val < 14 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- What is owed is owed on the cell of some payment of the list. -/
theorem owed_pos {c : Dev nD} {l : List Item} {g : GSem nD τ sig} {u : Unit} (h : 0 < owed c l g u) : ∃ a ∈ l, g = itemCell c a := by
  induction l with
  | nil => exact absurd h (Nat.lt_irrefl 0)
  | cons a l ih =>
    have h' : 0 < owed c l g u + item c a g u := h
    by_cases e : g = itemCell c a
    · exact ⟨a, List.mem_cons_self, e⟩
    · have z : item c a g u = 0 := by unfold item; rw [tallyAt_apply, if_neg fun x => e x.1]
      rw [z, Nat.add_zero] at h'
      obtain ⟨b, hb, e⟩ := ih h'
      exact ⟨b, List.mem_cons_of_mem _ hb, e⟩

/-- A device may wait on a semaphore that lies below everything it still owes. -/
theorem mayWait (c : Dev nD) (sm : SemLoc sig) (l : List Item) (h : ∀ a ∈ l, lvS sm < lvS (itemSem a)) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨a, -, rfl⟩ := owed_pos hg; exact Finset.mem_singleton_self _)
    (fun p hp => by rw [Finset.mem_singleton.mp hp]; exact Nat.le_refl _)
    (fun g u hg => by obtain ⟨a, ha, rfl⟩ := owed_pos hg; exact h a ha)

/-! ## The cells, and the records of their invariants -/

/-- The semaphores of a device the protocol uses: the barrier, and for each copy one at either end. -/
abbrev Ck : Type := Unit ⊕ (T ⊕ T)
/-- The semaphores of the copies alone. -/
abbrev osem : T ⊕ T → SemLoc sig
  | .inl t => .dma (sendSem t)
  | .inr t => .dma (recvSem t)
abbrev csem : Ck → SemLoc sig
  | .inl _ => .reg barS
  | .inr k => osem k
abbrev kcell (ck : Dev nD × Ck) : GSem nD τ sig := ((ck.1 : Thread nD τ), csem ck.2)

/-- Every cell's invariant, and that every cell has reached its round. -/
def records (K : Dev nD × Ck → ℕ) : sProp 𝕄 :=
  iprop((bigSep Finset.univ fun ck : Dev nD × Ck => cellInv ER (rd m) (K ck) (kcell ck))
    ∗ bigSep Finset.univ fun ck : Dev nD × Ck => reached ER (kcell ck) 0)
instance records_persistent (K : Dev nD × Ck → ℕ) : BI.Persistent (records m K) := by unfold records; infer_instance

/-- One cell's invariant; -/
theorem inv_at (K : Dev nD × Ck → ℕ) (ck : Dev nD × Ck) : records m K ⊢ cellInv ER (rd m) (K ck) (kcell ck) := by
  have h : (bigSep Finset.univ fun ck : Dev nD × Ck => (cellInv ER (rd m) (K ck) (kcell ck) : sProp 𝕄)) ⊢ cellInv ER (rd m) (K ck) (kcell ck) :=
    bigSep_elim (Finset.mem_univ ck)
  unfold records
  iintro ⟨H, -⟩
  iapply h; iexact H
/-- one cell's mark. -/
theorem reached_at (K : Dev nD × Ck → ℕ) (ck : Dev nD × Ck) : records m K ⊢ reached ER (kcell ck) 0 := by
  have h : (bigSep Finset.univ fun ck : Dev nD × Ck => (reached ER (kcell ck) 0 : sProp 𝕄)) ⊢ reached ER (kcell ck) 0 :=
    bigSep_elim (Finset.mem_univ ck)
  unfold records
  iintro ⟨-, H⟩
  iapply h; iexact H

end Cert.AllReduce

end
-- ==== Proof.Steps.lean ====
/-
# One effect at a time

For each kind of effect the kernel performs, what a device needs for it and what it has after it: a signal to a partner's
barrier, the wait on its own, the start of a copy, the wait for a copy's landing, the wait for a copy's source to be
free again, a load of a block and a store of one. Each is stated once, for every copy, block and device.
-/
module

public import proofs.«01_k».proof.Proof.Schedule

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Ck → ℕ)

/-! ## The states of a copy -/

/-- The device owes the payments of `l`. -/
def owesW (c : Dev nD) (l : List Item) : sProp 𝕄 := iprop(∃ W : Waits sig Unit, owes (c : Thread nD τ) (owed c l) W)

/-- A copy not yet started, apart from its source and its destination; -/
def P0 (t : T) (c : Dev nD) : sProp 𝕄 :=
  iprop(atPos ER (sendCell t c) 0 ∅ 0 ∗ atPos ER (recvCell t c) 0 ∅ 0 ∗ cred (tallyAt (recvCell t c) () N)
    ∗ dutyTok ER (sendCell t c) 0 0 ∗ dutyTok ER (recvCell t (peer t c)) 0 0)
/-- one started; -/
def P1 (t : T) (c : Dev nD) : sProp 𝕄 :=
  iprop(atPos ER (sendCell t c) 0 ∅ 0 ∗ atPos ER (recvCell t c) 0 ∅ 0 ∗ cred (tallyAt (recvCell t c) () N) ∗ cred (tallyAt (sendCell t c) () N))
/-- one whose counterpart from the partner has landed; -/
def P2 (t : T) (c : Dev nD) : sProp 𝕄 :=
  iprop(atPos ER (sendCell t c) 0 ∅ 0 ∗ cred (tallyAt (sendCell t c) () N) ∗ semVal (recvCell t c) 0)
/-- one done with. -/
def P3 (t : T) (c : Dev nD) : sProp 𝕄 := iprop(semVal (sendCell t c) 0 ∗ semVal (recvCell t c) 0)

section Steps
variable {α : Type} {Q : α → sProp (MT nD τ sig Unit (Elt F) ℕ UU ℕ)} {k : PUnit → Prog (TpuEff nD τ sig (Elt F) Λ₀ .tc) α}

/-- What the signal to the `i`-th partner takes: the right to it, and the places the partner's copies write. -/
def sigRes (c : Dev nD) (i : Fin 7) : sProp 𝕄 :=
  iprop(dutyTok ER (barCell (par i c)) 0 i ∗ bigSep (Finset.univ.filter fun t => dir t = i) fun t => landAny t (peer t c) c)

/-- The signal to the `i`-th partner's barrier. -/
theorem signal_step (c n : Dev nD) (i : Fin 7) (hn : n = par i c) (l₀ l : List Item) (hl : l₀ = .inl i :: l) :
    iprop(records m K ∗ sigRes c i ∗ owesW c l₀)
      ⊢ iprop((owesW c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn hl
  unfold owesW sigRes
  iintro ⟨#HR, ⟨Ht, Hp⟩, %W, HO⟩ Hk
  iapply (Rounds.wp_signal 𝒱₀ ER (rd m) (c : Thread nD τ) none (dst := (par i c : Thread nD τ)) (κ := K (par i c, .inl ()))
      (d := i) (by rw [duties_bar]; exact Finset.mem_univ _) rfl () (owed c l) rfl) $$ [HO Ht Hp]
  · isplitr; · iapply (inv_at m K (par i c, .inl ())); iexact HR
    isplitl [HO]; · iexact HO
    isplitl [Ht]; · iexact Ht
    isplitl [Hp]; · rw [payload_signal]; iexact Hp
    iapply (reached_at m K (par i c, .inl ())); iexact HR
  iintro HO
  iapply Hk
  iexists W; iexact HO

/-- The wait for the seven partners' signals: the places the device's copies write, and the barrier back at zero. -/
theorem barrier_step (c : Dev nD) (l : List Item) (hl : ∀ a ∈ l, 1 < lvS (itemSem a)) :
    iprop(records m K ∗ levAts L lv ∗ atPos ER (barCell c) 0 ∅ 0 ∗ cred (tallyAt (barCell c) () 7) ∗ owesW c l)
      ⊢ iprop(((semVal (barCell c) 0 ∗ (bigSep Finset.univ fun t => landAny t c (peer t c)) ∗ owesW c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owesW
  iintro ⟨#HR, #HL, Ha, Hc, %W, HO⟩ Hk
  iapply (Rounds.wp_wait_rest_token 𝒱₀ ER (rd m) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Hc HO Ha]
  · isplitr; · iapply (inv_at m K (c, .inl ())); iexact HR
    isplitl [Hc]; · iexact Hc
    isplitl [HO]; · iexact HO
    isplitr; · iapply (mayWait c (.reg barS) l hl); iexact HL
    iexact Ha
  iintro ⟨HO, Ha, -, Hp⟩
  ihave Hp := (Entails.of_eq (rest_bar m c)) $$ Hp
  imod (Rounds.cell_close ER (rd m) (Set.mem_univ (K (c, .inl ()))) (fun h => h) (R := 0 + 1) (duties_later m (barCell c))) $$ [Ha] with Hz
  · isplitr; · iapply (inv_at m K (c, .inl ())); iexact HR
    iexact Ha
  iapply Hk
  isplitl [Hz]; · iexact Hz
  isplitl [Hp]; · iexact Hp
  iexists _; iexact HO

/-- The start of copy `t`: the program's own memrefs and semaphores are those of `t`. -/
theorem send_step (t : T) (c n : Dev nD) (hn : n = peer t c) (src dst : MB) (hs : src = srcM t c) (hd : dst = landM t c)
    (sS rS : DmaSem sig) (hsS : sS = sendSem t) (hrS : rS = recvSem t) (l₀ l : List Item) (hl : l₀ = .inr t :: l)
    {hsc : (dst : Memref sig (Dev.tc n : Thread nD τ).2.kind .vmem S32x256 .f32).view.ref.isScScratch = false}
    {hsrc : src.view.WordExact} {hdst : (dst : Memref sig (Dev.tc n : Thread nD τ).2.kind .vmem S32x256 .f32).view.WordExact}
    {hsem : DmaTarget.Typed .vmem (.dma rS) (.remote (Dev.tc n : Thread nD τ) (dst : Memref sig (Dev.tc n : Thread nD τ).2.kind .vmem S32x256 .f32) (.dma sS) hsc)} :
    iprop(records m K ∗ P0 t c ∗ landAny t c (peer t c) ∗ srcPts m t c ∗ owesW c l₀)
      ⊢ iprop(((P1 t c ∗ owesW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs hd hsS hrS hl
  unfold owesW P0 P1 landAny
  iintro ⟨#HR, ⟨HaS, HaR, HcR, HtS, HtR⟩, ⟨%f, Hd⟩, Hs, %W, HO⟩ Hk
  unfold landPts srcPts
  iapply (Rounds.wp_send_pointsTo 𝒱₀ ER (rd m) (c : Thread nD τ) none (κ₁ := K (c, .inr (.inl t))) (κ₂ := K (peer t c, .inr (.inr t)))
      (sS := .dma (sendSem t)) (sem := .dma (recvSem t)) (r₁ := 0) (r₂ := 0) (d₁ := 0) (d₂ := 0) (fd := f)
      (by rw [duties_send]; exact Finset.mem_singleton_self _) (by rw [duties_recv]; exact Finset.mem_singleton_self _)
      () () N (land_credit t c) rfl rfl (owed c l) rfl (W := W)
      (by rw [payload_send]; unfold srcPts; exact BI.Entails.refl _)
      (by
        rw [payload_recv]; unfold landPay landPts; rw [peer_peer]
        exact Entails.of_eq (pointsTo_congr (write_eq _ _ _ _ (block_eq m t c))))) $$ [HO Hs Hd HtS HtR]
  · isplitr; · iapply (inv_at m K (c, .inr (.inl t))); iexact HR
    isplitr; · iapply (inv_at m K (peer t c, .inr (.inr t))); iexact HR
    isplitl [Hs]; · iexact Hs
    isplitl [Hd]; · iexact Hd
    isplitl [HO]; · iexact HO
    isplitl [HtS]; · iexact HtS
    isplitr; · iapply (reached_at m K (c, .inr (.inl t))); iexact HR
    isplitl [HtR]; · iexact HtR
    iapply (reached_at m K (peer t c, .inr (.inr t))); iexact HR
  iintro ⟨HcS, HO⟩
  iapply Hk
  isplitl [HaS HaR HcR HcS]
  · isplitl [HaS]; · iexact HaS
    isplitl [HaR]; · iexact HaR
    isplitl [HcR]; · iexact HcR
    iexact HcS
  iexists W; iexact HO

/-- The wait for copy `t` of the partner to land: its block, and the semaphore back at zero. -/
theorem recv_step (t : T) (c : Dev nD) (rS : DmaSem sig) (hrS : rS = recvSem t) (src dst : MB) (hN : dst.view.dmaCredit = N)
    (l : List Item) (hl : ∀ a ∈ l, lvS (.dma (recvSem t)) < lvS (itemSem a)) {hsrc : src.view.WordExact} {hdst : dst.view.WordExact} :
    iprop(records m K ∗ levAts L lv ∗ P1 t c ∗ owesW c l)
      ⊢ iprop(((P2 t c ∗ landPay m t c ∗ owesW c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hrS
  unfold owesW P1 P2
  iintro ⟨#HR, #HL, ⟨HaS, HaR, HcR, HcS⟩, %W, HO⟩ Hk
  iapply (Rounds.wp_wait_rest_token 𝒱₀ ER (rd m) (c : Thread nD τ) none (κ := K (c, .inr (.inr t))) (k' := N)
      (fun K => by rw [← hN]; exact wpE_waitDma2_eq 𝒱₀ (c : Thread nD τ) none Set.univ K) (Set.mem_univ _) () (O := owed c l) (W := W)
      (R := 0) (m := 0) (T := ∅) (by rw [Nat.zero_add, expect_recv])) $$ [HcR HO HaR]
  · isplitr; · iapply (inv_at m K (c, .inr (.inr t))); iexact HR
    isplitl [HcR]; · iexact HcR
    isplitl [HO]; · iexact HO
    isplitr; · iapply (mayWait c (.dma (recvSem t)) l hl); iexact HL
    iexact HaR
  iintro ⟨HO, HaR, -, Hp⟩
  ihave Hp := (Entails.of_eq (rest_recv m t c)) $$ Hp
  imod (Rounds.cell_close ER (rd m) (Set.mem_univ (K (c, .inr (.inr t)))) (fun h => h) (R := 0 + 1) (duties_later m (recvCell t c))) $$ [HaR] with Hz
  · isplitr; · iapply (inv_at m K (c, .inr (.inr t))); iexact HR
    iexact HaR
  iapply Hk
  isplitl [HaS HcS Hz]
  · isplitl [HaS]; · iexact HaS
    isplitl [HcS]; · iexact HcS
    iexact Hz
  isplitl [Hp]; · iexact Hp
  iexists _; iexact HO

/-- The wait for copy `t`'s source to have been read: the share lent, and the semaphore back at zero. -/
theorem free_step (t : T) (c : Dev nD) (sS : DmaSem sig) (hsS : sS = sendSem t) (src dst : MB) (hN : dst.view.dmaCredit = N) (l : List Item) (hl : l = [])
    {hsrc : src.view.WordExact} {hdst : dst.view.WordExact} :
    iprop(records m K ∗ P2 t c ∗ owesW c l)
      ⊢ iprop(((P3 t c ∗ srcPts m t c ∗ owesW c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS hl
  unfold owesW P2 P3
  iintro ⟨#HR, ⟨HaS, HcS, HzR⟩, %W, HO⟩ Hk
  iapply (Rounds.wp_wait_rest_token 𝒱₀ ER (rd m) (c : Thread nD τ) none (κ := K (c, .inr (.inl t))) (k' := N)
      (fun K => by rw [← hN]; exact wpE_waitDma2_eq 𝒱₀ (c : Thread nD τ) none Set.univ K) (Set.mem_univ _) () (O := owed c []) (W := W)
      (R := 0) (m := 0) (T := ∅) (by rw [Nat.zero_add, expect_send])) $$ [HcS HO HaS]
  · isplitr; · iapply (inv_at m K (c, .inr (.inl t))); iexact HR
    isplitl [HcS]; · iexact HcS
    isplitl [HO]; · iexact HO
    isplitr; · rw [show owed c [] = 0 from rfl, MayWait_zero]; iempintro
    iexact HaS
  iintro ⟨HO, HaS, -, Hp⟩
  ihave Hp := (Entails.of_eq (rest_send m t c)) $$ Hp
  imod (Rounds.cell_close ER (rd m) (Set.mem_univ (K (c, .inr (.inl t)))) (fun h => h) (R := 0 + 1) (duties_later m (sendCell t c))) $$ [HaS] with Hz
  · isplitr; · iapply (inv_at m K (c, .inr (.inl t))); iexact HR
    iexact HaS
  iapply Hk
  isplitl [Hz HzR]
  · isplitl [Hz]; · iexact Hz
    iexact HzR
  isplitl [Hp]; · iexact Hp
  iexists _; iexact HO

end Steps

/-! ## Loads and stores of a block -/

/-- A block of an array of device `c`, at share `q`, the array's contents on it being `f`'s. -/
abbrev blk (M : MB) (c : Dev nD) (q : PosShare TreeShare) (f : Buf (Elt F) (M.view.loc (c : Thread nD τ))) : sProp 𝕄 :=
  M.view.loc (c : Thread nD τ) ↦[M.view.set]{q} f

section Mem
variable {α : Type} {Q : α → sProp (MT nD τ sig Unit (Elt F) ℕ UU ℕ)}

theorem slot_set (M : M4) (h : Fin 2) (k : Fin 3) : (slotM M h k).view.set = (M.access (slotR h k)).set :=
  (M.view.slice (slotR h k)).set_reshape _
theorem pair_set (M : M3) (h : Fin 2) : (pairM M h).view.set = (M.access (pairR h)).set :=
  (M.view.slice (pairR h)).set_reshape _

/-- A load of one slot of a 2 × 3 array, -/
theorem load_slot (M : M4) (h : Fin 2) (k : Fin 3) (c : Dev nD) (q : PosShare TreeShare) (f : Buf (Elt F) ((slotM M h k).view.loc (c : Thread nD τ)))
    {hl : M.view.LoadsAt (slotR h k).toLoadRect} {kk : (S1x1x32x256.Idx → Elt F .f32) → Prog (TpuEff nD τ sig (Elt F) Λ₀ .tc) α} :
    blk (slotM M h k) c q f
      ⊢ iprop((blk (slotM M h k) c q f -∗ wp frame (wpE (defs₀ (F := F)) 𝒱₀ (c : Thread nD τ) none) Set.univ (kk ((M.access (slotR h k)).read (Elt F) f)) Q)
          -∗ wp frame (wpE (defs₀ (F := F)) 𝒱₀ (c : Thread nD τ) none) Set.univ (.op (.load M (slotR h k).toLoadRect hl) kk) Q) :=
  wp_load_rect 𝒱₀ (c : Thread nD τ) none Set.univ (m := M) (r := slotR h k) (S := (slotM M h k).view.set) (q := q) (f := f) (slot_set M h k).ge
/-- of one half of a pair, -/
theorem load_pair (M : M3) (h : Fin 2) (c : Dev nD) (q : PosShare TreeShare) (f : Buf (Elt F) ((pairM M h).view.loc (c : Thread nD τ)))
    {hl : M.view.LoadsAt (pairR h).toLoadRect} {kk : (S1x32x256.Idx → Elt F .f32) → Prog (TpuEff nD τ sig (Elt F) Λ₀ .tc) α} :
    blk (pairM M h) c q f
      ⊢ iprop((blk (pairM M h) c q f -∗ wp frame (wpE (defs₀ (F := F)) 𝒱₀ (c : Thread nD τ) none) Set.univ (kk ((M.access (pairR h)).read (Elt F) f)) Q)
          -∗ wp frame (wpE (defs₀ (F := F)) 𝒱₀ (c : Thread nD τ) none) Set.univ (.op (.load M (pairR h).toLoadRect hl) kk) Q) :=
  wp_load_rect 𝒱₀ (c : Thread nD τ) none Set.univ (m := M) (r := pairR h) (S := (pairM M h).view.set) (q := q) (f := f) (pair_set M h).ge
/-- of 32 rows of a 256 × 256 array. -/
theorem load_rows (M : M2) {off : Fin 2 → ℕ} (inb : ∀ a, off a + S32x256.size a ≤ S256x256.size a) (c : Dev nD) (q : PosShare TreeShare)
    (f : Buf (Elt F) ((rowsM M off inb).view.loc (c : Thread nD τ)))
    {hl : M.view.LoadsAt (Rect.unit (s := S256x256) off S32x256.size inb).toLoadRect} {kk : (S32x256.Idx → Elt F .f32) → Prog (TpuEff nD τ sig (Elt F) Λ₀ .tc) α} :
    blk (rowsM M off inb) c q f
      ⊢ iprop((blk (rowsM M off inb) c q f -∗ wp frame (wpE (defs₀ (F := F)) 𝒱₀ (c : Thread nD τ) none) Set.univ (kk ((rowsM M off inb).view.read (Elt F) f)) Q)
          -∗ wp frame (wpE (defs₀ (F := F)) 𝒱₀ (c : Thread nD τ) none) Set.univ (.op (.load M (Rect.unit (s := S256x256) off S32x256.size inb).toLoadRect hl) kk) Q) :=
  wp_load_rect 𝒱₀ (c : Thread nD τ) none Set.univ (m := M) (r := Rect.unit (s := S256x256) off S32x256.size inb) (S := (rowsM M off inb).view.set) (q := q) (f := f) (Finset.Subset.refl _)

/-- A store to one slot of the accumulator: it then holds any array's contents that has the stored block there. -/
theorem store_slot (h : Fin 2) (k : Fin 3) (c : Dev nD) (f : Buf (Elt F) ((slotM accM h k).view.loc (c : Thread nD τ)))
    (g : Fin 2 → Fin 3 → Blk F) (w : S1x1x32x256.Idx → Elt F .f32) (hw : up4 (g h k) = w) {hx : (accM.access (slotR h k)).Stores Finset.univ} {hm}
    {kk : PUnit → Prog (TpuEff nD τ sig (Elt F) Λ₀ .tc) α} :
    blk (slotM accM h k) c fullShare f
      ⊢ iprop((blk (slotM accM h k) c fullShare (slotBuf g) -∗ wp frame (wpE (defs₀ (F := F)) 𝒱₀ (c : Thread nD τ) none) Set.univ (kk ⟨⟩) Q)
          -∗ wp frame (wpE (defs₀ (F := F)) 𝒱₀ (c : Thread nD τ) none) Set.univ (.op (.store accM (slotR h k) w Finset.univ hx hm) kk) Q) := by
  have e : (blk (slotM accM h k) c fullShare ((accM.access (slotR h k)).write (Elt F) f w Finset.univ) : sProp 𝕄) = blk (slotM accM h k) c fullShare (slotBuf g) :=
    pointsTo_congr fun i hi => write_eq (accM.access (slotR h k)) f (slotBuf g) w ((load_acc g h k).trans hw) i ((slot_set accM h k) ▸ hi)
  rw [← e]
  exact wp_store 𝒱₀ (c : Thread nD τ) none Set.univ (m := accM) (r := slotR h k) (w := w) (Mk := Finset.univ) (hx := hx) (hm := hm) (k := kk)
    (S := (slotM accM h k).view.set) (f := f) (slot_set accM h k).ge
/-- A store to 32 rows of the result. -/
theorem store_rows {off : Fin 2 → ℕ} (inb : ∀ a, off a + S32x256.size a ≤ S256x256.size a) (h : Fin 2) (q : Fin 4) (ho : off = qoff h q) (c : Dev nD)
    (f : Buf (Elt F) ((rowsM oM off inb).view.loc (c : Thread nD τ)))
    (g : Fin 2 → Fin 4 → Blk F) (w : S32x256.Idx → Elt F .f32) (hw : g h q = w) {hx : (oM.access (Rect.unit (s := S256x256) off S32x256.size inb)).Stores Finset.univ} {hm}
    {kk : PUnit → Prog (TpuEff nD τ sig (Elt F) Λ₀ .tc) α} :
    blk (rowsM oM off inb) c fullShare f
      ⊢ iprop((blk (rowsM oM off inb) c fullShare (rowBuf g) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (Rect.unit (s := S256x256) off S32x256.size inb) w Finset.univ hx hm) kk) Q) := by
  have e : (blk (rowsM oM off inb) c fullShare ((rowsM oM off inb).view.write (Elt F) f w Finset.univ) : sProp 𝕄) = blk (rowsM oM off inb) c fullShare (rowBuf g) :=
    pointsTo_congr (write_eq (rowsM oM off inb).view f (rowBuf g) w ((read_o g h q inb ho).trans hw))
  rw [← e]
  exact wp_store 𝒱₀ (c : Thread nD τ) none Set.univ (m := oM) (r := Rect.unit (s := S256x256) off S32x256.size inb) (w := w) (Mk := Finset.univ) (hx := hx) (hm := hm) (k := kk)
    (S := (rowsM oM off inb).view.set) (f := f) (Finset.Subset.refl _)

end Mem

end Cert.AllReduce

end
-- ==== Proof.Ops.lean ====
/-
# The body's operations, ready to be used in order

The steps of `Steps` with their resources taken one by one; the accesses of rows at their canonical place; the values the
body stores; a block lent in shares to the copies that read it; and the body's own arrays put in place.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

variable {α : Type} {Q : α → sProp (MT nD τ sig Unit (Elt F) ℕ UU ℕ)}

/-- A piece of the body at the kernel's own arrays and semaphores. -/
abbrev onArgs {β : Type 1} (f : (a0 : M2) → a0.IsWhole → (a1 : M2) → a1.IsWhole → (a2 : M4) → a2.IsWhole → (a3 : M4) → a3.IsWhole → (a4 : M4) → a4.IsWhole →
    (a5 : M3) → a5.IsWhole → DmaSems sig S2x3 → DmaSems sig S2x3 → DmaSems sig S2x3 → DmaSems sig S2x3 → DmaSems sig S2 → DmaSems sig S2 →
    DmaSems sig S2x3 → DmaSems sig S2x3 → β) : β :=
  f xM (Memref.isWhole_whole _) oM (Memref.isWhole_whole _) accM (Memref.isWhole_whole _) rsM (Memref.isWhole_whole _) zM (Memref.isWhole_whole _)
    yM (Memref.isWhole_whole _) cc0_scratch4 cc0_scratch5 cc0_scratch6 cc0_scratch7 cc0_scratch8 cc0_scratch9 cc0_scratch10 cc0_scratch11

/-- Device `c` runs `p` to `Q`. -/
abbrev runs {α : Type} (c : Dev nD) (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- The payments after the first `n`. -/
abbrev left (n : ℕ) : List Item := items.drop n

/-- A program that has returned. -/
theorem done {c : Dev nD} {v : α} : Q v ⊢ runs c (.ret v) Q := by
  unfold runs; rw [wp_ret]; exact fupd_intro

section Take
variable {k : PUnit → Prog (TpuEff nD τ sig (Elt F) Λ₀ .tc) α}

/-- The signal to the `i`-th partner is the `n`-th payment. -/
theorem signal {c : Dev nD} (i : Fin 7) {d : Dev nD} (hn : d = par i c) (n : ℕ) (hl : left n = .inl i :: left (n + 1)) :
    records m K ⊢ iprop(sigRes c i -∗ owesW c (left n) -∗ (owesW c (left (n + 1)) -∗ runs c (k ⟨⟩) Q)
        -∗ runs c (.op (.semSignal (d : Thread nD τ) barS 1) k) Q) := by
  iintro #HR H HO
  iapply (signal_step m K c d i hn (left n) (left (n + 1)) hl)
  isplitr; · iexact HR
  isplitl [H] <;> iassumption

/-- The wait for the partners, `n` payments made. -/
theorem barrier {c : Dev nD} (n : ℕ) (hl : ∀ a ∈ left n, 1 < lvS (itemSem a)) :
    records m K ⊢ iprop(levAts L lv -∗ atPos ER (barCell c) 0 ∅ 0 -∗ cred (tallyAt (barCell c) () 7) -∗ owesW c (left n)
        -∗ (semVal (barCell c) 0 -∗ (bigSep Finset.univ fun t => landAny t c (peer t c)) -∗ owesW c (left n) -∗ runs c (k ⟨⟩) Q)
        -∗ runs c (.op (.semWait barS 7) k) Q) := by
  iintro #HR HL Ha Hc HO Hk
  iapply (barrier_step m K c (left n) hl) $$ [HL Ha Hc HO]
  · isplitr; · iexact HR
    isplitl [HL]; · iexact HL
    isplitl [Ha]; · iexact Ha
    isplitl [Hc] <;> iassumption
  iintro ⟨H1, H2, H3⟩
  iapply Hk $$ H1 H2 H3

/-- The start of copy `t` is the `n`-th payment. -/
theorem send {c : Dev nD} (t : T) {d : Dev nD} (hn : d = peer t c) (n : ℕ) (hl : left n = .inr t :: left (n + 1)) {src dst : MB} (hs : src = srcM t c) (hd : dst = landM t c)
    {sS rS : DmaSem sig} (hsS : sS = sendSem t) (hrS : rS = recvSem t)
    {hsc : (dst : Memref sig (Dev.tc d : Thread nD τ).2.kind .vmem S32x256 .f32).view.ref.isScScratch = false}
    {hsrc : src.view.WordExact} {hdst : (dst : Memref sig (Dev.tc d : Thread nD τ).2.kind .vmem S32x256 .f32).view.WordExact}
    {hsem : DmaTarget.Typed .vmem (.dma rS) (.remote (Dev.tc d : Thread nD τ) (dst : Memref sig (Dev.tc d : Thread nD τ).2.kind .vmem S32x256 .f32) (.dma sS) hsc)} :
    records m K ⊢ iprop(P0 t c -∗ landAny t c (peer t c) -∗ srcPts m t c -∗ owesW c (left n) -∗ (P1 t c -∗ owesW c (left (n + 1)) -∗ runs c (k ⟨⟩) Q)
        -∗ runs c (.op (.enqueueDma src (.remote (Dev.tc d : Thread nD τ) dst (.dma sS) hsc) (.dma rS) hsrc hdst hsem) k) Q) := by
  iintro #HR HP HD HS HO Hk
  iapply (send_step m K t c d hn src dst hs hd sS rS hsS hrS (left n) (left (n + 1)) hl) $$ [HP HD HS HO]
  · isplitr; · iexact HR
    isplitl [HP]; · iexact HP
    isplitl [HD]; · iexact HD
    isplitl [HS] <;> iassumption
  iintro ⟨H1, H2⟩
  iapply Hk $$ H1 H2

/-- The wait for the partner's copy `t`, `n` payments made. -/
theorem recv {c : Dev nD} (t : T) (n : ℕ) (hl : ∀ a ∈ left n, lvS (.dma (recvSem t)) < lvS (itemSem a)) {rS : DmaSem sig} (hrS : rS = recvSem t)
    {src dst : MB} (hs : src = srcM t c) (hd : dst = landM t c) {hsrc : src.view.WordExact} {hdst : dst.view.WordExact} :
    records m K ⊢ iprop(levAts L lv -∗ P1 t c -∗ owesW c (left n) -∗ (P2 t c -∗ landPay m t c -∗ owesW c (left n) -∗ runs c (k ⟨⟩) Q)
        -∗ runs c (.op (.waitDma2 rS src dst hsrc hdst) k) Q) := by
  iintro #HR HL HP HO Hk
  iapply (recv_step m K t c rS hrS src dst (hd ▸ land_credit t c) (left n) hl) $$ [HL HP HO]
  · isplitr; · iexact HR
    isplitl [HL]; · iexact HL
    isplitl [HP] <;> iassumption
  iintro ⟨H1, H2, H3⟩
  iapply Hk $$ H1 H2 H3

/-- The wait for the source of copy `t`, every payment made. -/
theorem free {c : Dev nD} (t : T) {sS : DmaSem sig} (hsS : sS = sendSem t)
    {src dst : MB} (hs : src = landM t c) (hd : dst = srcM t c) {hsrc : src.view.WordExact} {hdst : dst.view.WordExact} :
    records m K ⊢ iprop(P2 t c -∗ owesW c (left 27) -∗ (P3 t c -∗ srcPts m t c -∗ owesW c (left 27) -∗ runs c (k ⟨⟩) Q)
        -∗ runs c (.op (.waitDma2 sS src dst hsrc hdst) k) Q) := by
  iintro #HR HP HO Hk
  iapply (free_step m K t c sS hsS src dst (hd ▸ src_credit t c) (left 27) rfl) $$ [HP HO]
  · isplitr; · iexact HR
    isplitl [HP] <;> iassumption
  iintro ⟨H1, H2, H3⟩
  iapply Hk $$ H1 H2 H3

end Take

/-! ## Rows at their place -/

/-- Rows `(h, q)` of a 256 × 256 array. -/
abbrev rowsAt (M : M2) (h : Fin 2) (q : Fin 4) : MB := rowsM M (qoff h q) (inb2 h q)

/-- A load of the rows at `(h, q)`, however their offset is written. -/
theorem load_at (M : M2) (h : Fin 2) (p : Fin 4) {off : Fin 2 → ℕ} (ho : off = qoff h p) (inb : ∀ a, off a + S32x256.size a ≤ S256x256.size a) (c : Dev nD) (q : PosShare TreeShare)
    (f : Buf (Elt F) ((rowsAt M h p).view.loc (c : Thread nD τ)))
    {hl : M.view.LoadsAt (Rect.unit (s := S256x256) off S32x256.size inb).toLoadRect} {kk : (S32x256.Idx → Elt F .f32) → Prog (TpuEff nD τ sig (Elt F) Λ₀ .tc) α} :
    blk (rowsAt M h p) c q f
      ⊢ iprop((blk (rowsAt M h p) c q f -∗ runs c (kk ((rowsAt M h p).view.read (Elt F) f)) Q)
          -∗ runs c (.op (.load M (Rect.unit (s := S256x256) off S32x256.size inb).toLoadRect hl) kk) Q) := by
  subst ho; exact load_rows M inb c q f

/-- A store to the rows of the result at `(h, q)`. -/
theorem store_at (h : Fin 2) (q : Fin 4) {off : Fin 2 → ℕ} (ho : off = qoff h q) (inb : ∀ a, off a + S32x256.size a ≤ S256x256.size a) (c : Dev nD)
    (f : Buf (Elt F) ((rowsAt oM h q).view.loc (c : Thread nD τ)))
    (g : Fin 2 → Fin 4 → Blk F) (w : S32x256.Idx → Elt F .f32) (hw : g h q = w) {hx : (oM.access (Rect.unit (s := S256x256) off S32x256.size inb)).Stores Finset.univ} {hm}
    {kk : PUnit → Prog (TpuEff nD τ sig (Elt F) Λ₀ .tc) α} :
    blk (rowsAt oM h q) c fullShare f
      ⊢ iprop((blk (rowsAt oM h q) c fullShare (rowBuf g) -∗ runs c (kk ⟨⟩) Q)
          -∗ runs c (.op (.store oM (Rect.unit (s := S256x256) off S32x256.size inb) w Finset.univ hx hm) kk) Q) := by
  subst ho; exact store_rows inb h q rfl c f g w hw

/-- The same rows at two spellings of their offset. -/
theorem rows_blk (M : M2) {off off' : Fin 2 → ℕ} (e : off = off') (inb : ∀ a, off a + S32x256.size a ≤ S256x256.size a)
    (inb' : ∀ a, off' a + S32x256.size a ≤ S256x256.size a) (c : Dev nD) (q : PosShare TreeShare) (f : M.view.ty.Contents (Elt F)) :
    (blk (rowsM M off inb) c q f : sProp 𝕄) = blk (rowsM M off' inb') c q f := by subst e; rfl

/-- The sources of the first and last copies, and the landing of the last, as rows at their place. -/
theorem srcPts_rs (h : Fin 2) (k : Fin 3) (c : Dev nD) :
    srcPts m (.rs h k) c = blk (rowsAt xM h (pos (par (quad k) c))) c fullShare (xB m c) :=
  rows_blk xM (off1_eq c h k) (k0_off1_inb c h k) (inb2 h _) c fullShare (xB m c)
theorem srcPts_ag (h : Fin 2) (k : Fin 3) (c : Dev nD) :
    srcPts m (.ag h k) c = blk (rowsAt oM h (pos c)) c (shareTokN fullShare k.val) (outB m c) :=
  rows_blk oM (off3_eq c h) (k0_off3_inb c h) (inb2 h _) c _ (outB m c)
theorem landPts_ag (h : Fin 2) (k : Fin 3) (s r : Dev nD) (f : S256x256.Idx → Elt F .f32) :
    landPts (.ag h k) s r f = blk (rowsAt oM h (pos s)) r fullShare f :=
  rows_blk oM (off3_eq s h) (k0_off3_inb s h) (inb2 h _) r fullShare f

/-! ## Lending -/

section Lend
variable (M : MB) (c : Dev nD) (f : Buf (Elt F) (M.view.loc (c : Thread nD τ)))

/-- A block and its three shares for copies: given out, -/
theorem lend3 : blk M c fullShare f
    ⊢ iprop(blk M c (shareDrop fullShare 3) f ∗ blk M c (shareTokN fullShare 0) f ∗ blk M c (shareTokN fullShare 1) f ∗ blk M c (shareTokN fullShare 2) f : sProp 𝕄) := by
  refine (pointsTo_toks_split fullShare 3).trans ?_
  rw [bigSep_univ_eq_bigSepL [0, 1, 2] (by decide) (by decide)]
  simp only [bigSepL_cons_cons, bigSepL_singleton]
  exact BI.Entails.refl _
/-- and taken back. -/
theorem back3 : iprop(blk M c (shareDrop fullShare 3) f ∗ blk M c (shareTokN fullShare 0) f ∗ blk M c (shareTokN fullShare 1) f ∗ blk M c (shareTokN fullShare 2) f)
    ⊢ (blk M c fullShare f : sProp 𝕄) := by
  refine BI.Entails.trans ?_ (pointsTo_toks_join fullShare 3)
  rw [bigSep_univ_eq_bigSepL [0, 1, 2] (by decide) (by decide)]
  simp only [bigSepL_cons_cons, bigSepL_singleton]
  exact BI.Entails.refl _
/-- A block and one share for a copy: given out, -/
theorem lend1 : blk M c fullShare f ⊢ iprop(blk M c (shareDrop fullShare 1) f ∗ blk M c (shareTokN fullShare 0) f : sProp 𝕄) := by
  refine (pointsTo_toks_split fullShare 1).trans ?_
  rw [bigSep_univ_eq_bigSepL [0] (by decide) (by decide)]
  simp only [bigSepL_singleton]
  exact BI.Entails.refl _
/-- and taken back. -/
theorem back1 : iprop(blk M c (shareDrop fullShare 1) f ∗ blk M c (shareTokN fullShare 0) f) ⊢ (blk M c fullShare f : sProp 𝕄) := by
  refine BI.Entails.trans ?_ (pointsTo_toks_join fullShare 1)
  rw [bigSep_univ_eq_bigSepL [0] (by decide) (by decide)]
  simp only [bigSepL_singleton]
  exact BI.Entails.refl _
end Lend

/-! ## The stored values -/

/-- A block raised to a slot's shape and lowered again. -/
theorem low4 (v : Blk F) (hn : S1x1x32x256.ShapeCasts S32x256) : shapeCast S32x256 (up4 v) hn = v := funext fun j => down4 v j _
theorem low3 (v : Blk F) (hn : S1x32x256.ShapeCasts S32x256) : shapeCast S32x256 (up3 v) hn = v := funext fun j => down3 v j _

/-- What a load of a slot of the accumulator returns once it is filled, -/
abbrev ldA (c : Dev nD) (h : Fin 2) (k : Fin 3) : S1x1x32x256.Idx → Elt F .f32 := (accM.access (slotR h k)).read (Elt F) (accB m c)
/-- of the three landing arrays. -/
abbrev ldR (c : Dev nD) (h : Fin 2) (k : Fin 3) : S1x1x32x256.Idx → Elt F .f32 := (rsM.access (slotR h k)).read (Elt F) (rsB m c)
abbrev ldZ (c : Dev nD) (h : Fin 2) (k : Fin 3) : S1x1x32x256.Idx → Elt F .f32 := (zM.access (slotR h k)).read (Elt F) (zB m c)
abbrev ldY (c : Dev nD) (h : Fin 2) : S1x32x256.Idx → Elt F .f32 := (yM.access (pairR h)).read (Elt F) (yB m c)

/-! The loads of a landed block. -/

theorem loadR {c : Dev nD} (h : Fin 2) (k : Fin 3) {hl : rsM.view.LoadsAt (slotR h k).toLoadRect} {kk : (S1x1x32x256.Idx → Elt F .f32) → Prog (TpuEff nD τ sig (Elt F) Λ₀ .tc) α} :
    landPay m (.rs h k) c ⊢ iprop((landPay m (.rs h k) c -∗ runs c (kk (ldR m c h k)) Q) -∗ runs c (.op (.load rsM (slotR h k).toLoadRect hl) kk) Q) :=
  load_slot rsM h k c fullShare (rsB m c)
theorem loadZ {c : Dev nD} (h : Fin 2) (k : Fin 3) {hl : zM.view.LoadsAt (slotR h k).toLoadRect} {kk : (S1x1x32x256.Idx → Elt F .f32) → Prog (TpuEff nD τ sig (Elt F) Λ₀ .tc) α} :
    landPay m (.z h k) c ⊢ iprop((landPay m (.z h k) c -∗ runs c (kk (ldZ m c h k)) Q) -∗ runs c (.op (.load zM (slotR h k).toLoadRect hl) kk) Q) :=
  load_slot zM h k c fullShare (zB m c)
theorem loadY {c : Dev nD} (h : Fin 2) {hl : yM.view.LoadsAt (pairR h).toLoadRect} {kk : (S1x32x256.Idx → Elt F .f32) → Prog (TpuEff nD τ sig (Elt F) Λ₀ .tc) α} :
    landPay m (.y h) c ⊢ iprop((landPay m (.y h) c -∗ runs c (kk (ldY m c h)) Q) -∗ runs c (.op (.load yM (pairR h).toLoadRect hl) kk) Q) :=
  load_pair yM h c fullShare (yB m c)

theorem ldA_eq (c : Dev nD) (h : Fin 2) (k : Fin 3) : ldA m c h k = up4 (acc m c h k) := load_acc (acc m c) h k
theorem ldR_eq (c : Dev nD) (h : Fin 2) (k : Fin 3) : ldR m c h k = up4 (X m (par (quad k) c) h (pos c)) := load_rs (fun h k => X m (par (quad k) c) h (pos c)) h k
theorem ldZ_eq (c : Dev nD) (h : Fin 2) (k : Fin 3) : ldZ m c h k = up4 (acc m (par (far k) c) h (zk h)) := load_z (fun h k => acc m (par (far k) c) h (zk h)) h k
theorem ldY_eq (c : Dev nD) (h : Fin 2) : ldY m c h = up3 (acc m (par 3 c) h (yk h)) := load_y (fun h => acc m (par 3 c) h (yk h)) h

/-- The partial sums written out. -/
theorem acc_0 (c : Dev nD) (h : Fin 2) :
    acc m c h 0 = addf (addf (addf (X m c h (pos c)) (X m (par (quad 0) c) h (pos c))) (X m (par (quad 1) c) h (pos c))) (X m (par (quad 2) c) h (pos c)) := by
  show quadSum (fun d => X m d h (pos c)) c = _
  unfold quadSum; rfl
theorem acc_01 (c : Dev nD) :
    acc m c 0 1 = addf (addf (addf (acc m c 0 0) (acc m (par (far 0) c) 0 (zk 0))) (acc m (par (far 1) c) 0 (zk 0))) (acc m (par (far 2) c) 0 (zk 0)) := by
  show farSum (acc0 m 0) c = _
  unfold farSum; rfl
theorem acc_11 (c : Dev nD) : acc m c 1 1 = addf (acc m c 1 0) (acc m (par 3 c) 1 (yk 1)) := by
  show pairSum (acc0 m 1) c = _
  unfold pairSum; rfl
theorem acc_02 (c : Dev nD) : acc m c 0 2 = addf (acc m c 0 1) (acc m (par 3 c) 0 (yk 0)) := by
  show pairSum (acc1 m 0) c = _
  unfold pairSum; rfl
theorem acc_12 (c : Dev nD) :
    acc m c 1 2 = addf (addf (addf (acc m c 1 1) (acc m (par (far 0) c) 1 (zk 1))) (acc m (par (far 1) c) 1 (zk 1))) (acc m (par (far 2) c) 1 (zk 1)) := by
  show farSum (acc1 m 1) c = _
  unfold farSum; rfl

theorem pay1_eq (c : Dev nD) : up4 (acc m c 0 0) = k0_pay1 (X m c 0 (pos c)) (ldR m c 0 0) (ldR m c 0 1) (ldR m c 0 2) := by
  rw [acc_0]; unfold k0_pay1; rw [ldR_eq, ldR_eq, ldR_eq]; rw [shapeCast_id]; erw [low4, low4, low4]
theorem pay2_eq (c : Dev nD) : up4 (acc m c 1 0) = k0_pay2 (X m c 1 (pos c)) (ldR m c 1 0) (ldR m c 1 1) (ldR m c 1 2) := by
  rw [acc_0]; unfold k0_pay2; rw [ldR_eq, ldR_eq, ldR_eq]; rw [shapeCast_id]; erw [low4, low4, low4]
theorem far_value (a b d e : Blk F) : up4 (addf (addf (addf a b) d) e) = k0_pay3 (up4 a) (up4 b) (up4 d) (up4 e) := by
  unfold k0_pay3; erw [low4, low4, low4, low4]
theorem far_value' (a b d e : Blk F) : up4 (addf (addf (addf a b) d) e) = k0_pay8 (k0_pay7 (up4 a) (up4 b)) (up4 d) (up4 e) := by
  unfold k0_pay8 k0_pay7; erw [low4, low4, low4, low4]
theorem pay3_eq (c : Dev nD) : up4 (acc m c 0 1) = k0_pay3 (ldA m c 0 0) (ldZ m c 0 0) (ldZ m c 0 1) (ldZ m c 0 2) := by
  rw [acc_01]; rw [ldA_eq, ldZ_eq, ldZ_eq, ldZ_eq]; exact far_value _ _ _ _
theorem pay4_eq (c : Dev nD) : up4 (acc m c 1 1) = k0_pay4 (ldA m c 1 0) (ldY m c 1) := by
  rw [acc_11]; unfold k0_pay4; rw [ldA_eq, ldY_eq]; erw [low4, low3]
theorem pay5_eq (c : Dev nD) : up4 (acc m c 0 2) = k0_pay5 (ldA m c 0 1) (ldY m c 0) := by
  rw [acc_02]; unfold k0_pay5; rw [ldA_eq, ldY_eq]; erw [low4, low3]
theorem pay6_eq (c : Dev nD) : acc m (mate c (pos c)) 0 2 = k0_pay6 (ldA m c 0 2) := by
  unfold k0_pay6; rw [ldA_eq, mate_pos]; exact (low4 _ _).symm
theorem pay8_eq (c : Dev nD) : up4 (acc m c 1 2) = k0_pay8 (k0_pay7 (ldA m c 1 1) (ldZ m c 1 0)) (ldZ m c 1 1) (ldZ m c 1 2) := by
  rw [acc_12]; rw [ldA_eq, ldZ_eq, ldZ_eq, ldZ_eq]; exact far_value' _ _ _ _
theorem pay9_eq (c : Dev nD) : acc m (mate c (pos c)) 1 2 = k0_pay9 (ldA m c 1 2) := by
  unfold k0_pay9; rw [ldA_eq, mate_pos]; exact (low4 _ _).symm

/-! The stores, the arrays then holding their final contents on the block. -/

theorem storeA {c : Dev nD} (h : Fin 2) (k : Fin 3) (f : Buf (Elt F) ((slotM accM h k).view.loc (c : Thread nD τ))) {w : S1x1x32x256.Idx → Elt F .f32} (hw : up4 (acc m c h k) = w)
    {hx : (accM.access (slotR h k)).Stores Finset.univ} {hm} {kk : PUnit → Prog (TpuEff nD τ sig (Elt F) Λ₀ .tc) α} :
    blk (slotM accM h k) c fullShare f
      ⊢ iprop((blk (slotM accM h k) c fullShare (accB m c) -∗ runs c (kk ⟨⟩) Q) -∗ runs c (.op (.store accM (slotR h k) w Finset.univ hx hm) kk) Q) :=
  store_slot h k c f (acc m c) w hw
theorem storeO {c : Dev nD} (h : Fin 2) {off : Fin 2 → ℕ} (ho : off = qoff h (pos c)) (inb : ∀ a, off a + S32x256.size a ≤ S256x256.size a)
    (f : Buf (Elt F) ((rowsAt oM h (pos c)).view.loc (c : Thread nD τ))) {w : S32x256.Idx → Elt F .f32} (hw : acc m (mate c (pos c)) h 2 = w)
    {hx : (oM.access (Rect.unit (s := S256x256) off S32x256.size inb)).Stores Finset.univ} {hm} {kk : PUnit → Prog (TpuEff nD τ sig (Elt F) Λ₀ .tc) α} :
    blk (rowsAt oM h (pos c)) c fullShare f
      ⊢ iprop((blk (rowsAt oM h (pos c)) c fullShare (outB m c) -∗ runs c (kk ⟨⟩) Q)
          -∗ runs c (.op (.store oM (Rect.unit (s := S256x256) off S32x256.size inb) w Finset.univ hx hm) kk) Q) :=
  store_at h (pos c) ho inb c f (fun h q => acc m (mate c q) h 2) w hw

end Cert.AllReduce

end
-- ==== Proof.PartsA.lean ====
/-
# The body, part by part: the handshake, the copies of the group, and its sums
-/
module

public import proofs.«01_k».proof.Proof.Ops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-! The body is printed in twenty-six pieces; each is run from what it uses to what it leaves. -/

/-- The stored sums lent to the copies that read them. -/
theorem lend_z (h : Fin 2) (k : Fin 3) (hk : k = zk h) (c : Dev nD) : blk (slotM accM h k) c fullShare (accB m c)
    ⊢ iprop(blk (slotM accM h k) c (shareDrop fullShare 3) (accB m c) ∗ srcPts m (.z h 0) c ∗ srcPts m (.z h 1) c ∗ srcPts m (.z h 2) c) := by
  subst hk; exact lend3 (slotM accM h (zk h)) c (accB m c)
theorem lend_y (h : Fin 2) (k : Fin 3) (hk : k = yk h) (c : Dev nD) : blk (slotM accM h k) c fullShare (accB m c)
    ⊢ iprop(blk (slotM accM h k) c (shareDrop fullShare 1) (accB m c) ∗ srcPts m (.y h) c) := by
  subst hk; exact lend1 (slotM accM h (yk h)) c (accB m c)
theorem lend_ag (h : Fin 2) (c : Dev nD) : blk (rowsAt oM h (pos c)) c fullShare (outB m c)
    ⊢ iprop(blk (rowsAt oM h (pos c)) c (shareDrop fullShare 3) (outB m c) ∗ srcPts m (.ag h 0) c ∗ srcPts m (.ag h 1) c ∗ srcPts m (.ag h 2) c) := by
  rw [srcPts_ag, srcPts_ag, srcPts_ag]
  exact lend3 (rowsAt oM h (pos c)) c (outB m c)

/-- The signals to the first four partners. -/
theorem part1 (c : Dev nD) (Kt : _ → sProp 𝕄) :
    records m K ⊢ iprop(sigRes c 0 -∗ sigRes c 1 -∗ sigRes c 2 -∗ sigRes c 3 -∗ owesW c (left 0)
        -∗ (owesW c (left 4) -∗ (∀ a b e, Kt ⟨c, a, b, SemArray.scalar (sig.barrier 0 rfl), e⟩))
        -∗ runs c (onArgs (k0_part1 (F := F))) Kt) := by
  rw [k0_part1_eq_skeleton]
  unfold runs onArgs k0_part1_skel
  simp only [semSignalWord, semWaitWord, Prog.lift, Prog.bind_op, Prog.bind_ret, Prog.pure_eq_ret, wp_deviceId]
  iintro #HR Hsig0 Hsig1 Hsig2 Hsig3 HO Hk
  iapply (signal m K 0 (dev1_eq c) 0 rfl) $$ HR Hsig0 HO
  iintro HO
  iapply (signal m K 1 (dev2_eq c) 1 rfl) $$ HR Hsig1 HO
  iintro HO
  iapply (signal m K 2 (dev3_eq c) 2 rfl) $$ HR Hsig2 HO
  iintro HO
  iapply (signal m K 3 (dev4_eq c) 3 rfl) $$ HR Hsig3 HO
  iintro HO
  iapply done
  iapply Hk $$ HO

/-- The signals to the other three, the wait for all seven, the first copy. -/
theorem part2 (c : Dev nD) (v2 : BitVec 32) (v12 : BitVec 32) (v27 : BitVec 32) (Kt : _ → sProp 𝕄) :
    records m K ⊢ iprop(levAts L lv -∗ sigRes c 4 -∗ sigRes c 5 -∗ sigRes c 6 -∗ atPos ER (barCell c) 0 ∅ 0 -∗ cred (tallyAt (barCell c) () 7) -∗ P0 (.rs 0 0) c -∗ srcPts m (.rs 0 0) c -∗ owesW c (left 4)
        -∗ (semVal (barCell c) 0 -∗ (bigSep (Finset.univ.erase (T.rs 0 0)) fun t => landAny t c (peer t c)) -∗ P1 (.rs 0 0) c -∗ owesW c (left 8) -∗ (∀ a b, Kt ⟨a, b⟩))
        -∗ runs c (onArgs (k0_part2 (F := F)) c v2 v12 (SemArray.scalar (sig.barrier 0 rfl)) v27) Kt) := by
  rw [k0_part2_eq_skeleton]
  unfold runs onArgs k0_part2_skel
  simp only [semSignalWord, semWaitWord, Prog.lift, Prog.bind_op, Prog.bind_ret, Prog.pure_eq_ret, wp_deviceId]
  iintro #HR #HL Hsig4 Hsig5 Hsig6 Hbaratt Hbarcred HP0r00 Hsrcr00 HO Hk
  iapply (signal m K 4 (dev5_eq c) 4 rfl) $$ HR Hsig4 HO
  iintro HO
  iapply (signal m K 5 (dev6_eq c) 5 rfl) $$ HR Hsig5 HO
  iintro HO
  iapply (signal m K 6 (dev7_eq c) 6 rfl) $$ HR Hsig6 HO
  iintro HO
  iapply (barrier m K 7 (by decide +kernel)) $$ HR HL Hbaratt Hbarcred HO
  iintro Hbarz HD HO
  ihave HD := (Entails.of_eq (bigSep_univ_at (fun t => landAny t c (peer t c)) (T.rs 0 0))) $$ HD
  icases HD with ⟨Hlandr00, Hlands⟩
  iapply (send m K (.rs 0 0) (dev8_eq c) 7 rfl rfl rfl rfl rfl) $$ HR HP0r00 Hlandr00 Hsrcr00 HO
  iintro HP1r00 HO
  iapply done
  iapply Hk $$ Hbarz Hlands HP1r00 HO

/-- The next two copies of the group. -/
theorem part3 (c : Dev nD) (v2 : BitVec 32) (v12 : BitVec 32) (v51 : BitVec 32) (Kt : _ → sProp 𝕄) :
    records m K ⊢ iprop(P0 (.rs 0 1) c -∗ landAny (.rs 0 1) c (peer (.rs 0 1) c) -∗ srcPts m (.rs 0 1) c -∗ P0 (.rs 0 2) c -∗ landAny (.rs 0 2) c (peer (.rs 0 2) c) -∗ srcPts m (.rs 0 2) c -∗ owesW c (left 8)
        -∗ (P1 (.rs 0 1) c -∗ P1 (.rs 0 2) c -∗ owesW c (left 10) -∗ (∀ a b, Kt ⟨a, b⟩))
        -∗ runs c (onArgs (k0_part3 (F := F)) c v2 v12 v51) Kt) := by
  rw [k0_part3_eq_skeleton]
  unfold runs onArgs k0_part3_skel
  simp only [semSignalWord, semWaitWord, Prog.lift, Prog.bind_op, Prog.bind_ret, Prog.pure_eq_ret, wp_deviceId]
  iintro #HR HP0r01 Hlandr01 Hsrcr01 HP0r02 Hlandr02 Hsrcr02 HO Hk
  iapply (send m K (.rs 0 1) (dev9_eq c) 8 rfl rfl rfl rfl rfl) $$ HR HP0r01 Hlandr01 Hsrcr01 HO
  iintro HP1r01 HO
  iapply (send m K (.rs 0 2) (dev10_eq c) 9 rfl rfl rfl rfl rfl) $$ HR HP0r02 Hlandr02 Hsrcr02 HO
  iintro HP1r02 HO
  iapply done
  iapply Hk $$ HP1r01 HP1r02 HO

/-- Two more. -/
theorem part4 (c : Dev nD) (v2 : BitVec 32) (v12 : BitVec 32) (v77 : BitVec 32) (Kt : _ → sProp 𝕄) :
    records m K ⊢ iprop(P0 (.rs 1 0) c -∗ landAny (.rs 1 0) c (peer (.rs 1 0) c) -∗ srcPts m (.rs 1 0) c -∗ P0 (.rs 1 1) c -∗ landAny (.rs 1 1) c (peer (.rs 1 1) c) -∗ srcPts m (.rs 1 1) c -∗ owesW c (left 10)
        -∗ (P1 (.rs 1 0) c -∗ P1 (.rs 1 1) c -∗ owesW c (left 12) -∗ (∀ a b, Kt ⟨a, b⟩))
        -∗ runs c (onArgs (k0_part4 (F := F)) c v2 v12 v77) Kt) := by
  rw [k0_part4_eq_skeleton]
  unfold runs onArgs k0_part4_skel
  simp only [semSignalWord, semWaitWord, Prog.lift, Prog.bind_op, Prog.bind_ret, Prog.pure_eq_ret, wp_deviceId]
  iintro #HR HP0r10 Hlandr10 Hsrcr10 HP0r11 Hlandr11 Hsrcr11 HO Hk
  iapply (send m K (.rs 1 0) (dev11_eq c) 10 rfl rfl rfl rfl rfl) $$ HR HP0r10 Hlandr10 Hsrcr10 HO
  iintro HP1r10 HO
  iapply (send m K (.rs 1 1) (dev12_eq c) 11 rfl rfl rfl rfl rfl) $$ HR HP0r11 Hlandr11 Hsrcr11 HO
  iintro HP1r11 HO
  iapply done
  iapply Hk $$ HP1r10 HP1r11 HO

/-- The last copy of the group, two landings. -/
theorem part5 (c : Dev nD) (v38 : BitVec 32) (v51 : BitVec 32) (v103 : BitVec 32) (Kt : _ → sProp 𝕄) :
    records m K ⊢ iprop(levAts L lv -∗ P0 (.rs 1 2) c -∗ landAny (.rs 1 2) c (peer (.rs 1 2) c) -∗ srcPts m (.rs 1 2) c -∗ P1 (.rs 0 0) c -∗ P1 (.rs 0 1) c -∗ owesW c (left 12)
        -∗ (P1 (.rs 1 2) c -∗ P2 (.rs 0 0) c -∗ landPay m (.rs 0 0) c -∗ P2 (.rs 0 1) c -∗ landPay m (.rs 0 1) c -∗ owesW c (left 13) -∗ Kt ⟨⟩)
        -∗ runs c (onArgs (k0_part5 (F := F)) c v38 v51 v103) Kt) := by
  rw [k0_part5_eq_skeleton]
  unfold runs onArgs k0_part5_skel
  simp only [semSignalWord, semWaitWord, Prog.lift, Prog.bind_op, Prog.bind_ret, Prog.pure_eq_ret, wp_deviceId]
  iintro #HR #HL HP0r12 Hlandr12 Hsrcr12 HP1r00 HP1r01 HO Hk
  iapply (send m K (.rs 1 2) (dev13_eq c) 12 rfl rfl rfl rfl rfl) $$ HR HP0r12 Hlandr12 Hsrcr12 HO
  iintro HP1r12 HO
  iapply (recv m K (.rs 0 0) 13 (by decide +kernel) rfl rfl rfl) $$ HR HL HP1r00 HO
  iintro HP2r00 Hlpr00 HO
  iapply (recv m K (.rs 0 1) 13 (by decide +kernel) rfl rfl rfl) $$ HR HL HP1r01 HO
  iintro HP2r01 Hlpr01 HO
  iapply done
  iapply Hk $$ HP1r12 HP2r00 Hlpr00 HP2r01 Hlpr01 HO

/-- The last landing of half 0: its sum over the group is stored, and lent to its copies along the long axis. -/
theorem part6 (c : Dev nD) (v2 : BitVec 32) (v12 : BitVec 32) (v64 : BitVec 32) (Kt : _ → sProp 𝕄) :
    records m K ⊢ iprop(levAts L lv -∗ P1 (.rs 0 2) c -∗ blk (rowsAt xM 0 (pos c)) c fullShare (xB m c) -∗ landPay m (.rs 0 0) c -∗ landPay m (.rs 0 1) c -∗ (∃ f, blk (slotM accM 0 0) c fullShare f) -∗ owesW c (left 13)
        -∗ (P2 (.rs 0 2) c -∗ blk (rowsAt xM 0 (pos c)) c fullShare (xB m c) -∗ landPay m (.rs 0 0) c -∗ landPay m (.rs 0 1) c -∗ landPay m (.rs 0 2) c -∗ blk (slotM accM 0 0) c (shareDrop fullShare 3) (accB m c) -∗ srcPts m (.z 0 0) c -∗ srcPts m (.z 0 1) c -∗ srcPts m (.z 0 2) c -∗ owesW c (left 13) -∗ (∀ a, Kt a))
        -∗ runs c (onArgs (k0_part6 (F := F)) c v2 v12 v64) Kt) := by
  rw [k0_part6_eq_skeleton]
  unfold runs onArgs k0_part6_skel
  simp only [semSignalWord, semWaitWord, Prog.lift, Prog.bind_op, Prog.bind_ret, Prog.pure_eq_ret, wp_deviceId]
  iintro #HR #HL HP1r02 Hx0 Hlpr00 Hlpr01 HAu00 HO Hk
  iapply (recv m K (.rs 0 2) 13 (by decide +kernel) rfl rfl rfl) $$ HR HL HP1r02 HO
  iintro HP2r02 Hlpr02 HO
  iapply (load_at xM 0 (pos c) (off2_eq c 0) _ c fullShare (xB m c)) $$ Hx0
  iintro Hx0
  iapply (loadR m 0 0) $$ Hlpr00
  iintro Hlpr00
  iapply (loadR m 0 1) $$ Hlpr01
  iintro Hlpr01
  iapply (loadR m 0 2) $$ Hlpr02
  iintro Hlpr02
  icases HAu00 with ⟨%fa, HAu00⟩
  iapply (load_slot accM 0 0 c fullShare fa) $$ HAu00
  iintro HAu00
  iapply (storeA m 0 0 fa (pay1_eq m c)) $$ HAu00
  iintro HA00
  ihave HB := (lend_z m 0 0 rfl c) $$ HA00
  icases HB with ⟨HA00, Hsrcz00, Hsrcz01, Hsrcz02⟩
  iapply done
  iapply Hk $$ HP2r02 Hx0 Hlpr00 Hlpr01 Hlpr02 HA00 Hsrcz00 Hsrcz01 Hsrcz02 HO

/-- Two copies along the long axis. -/
theorem part7 (c : Dev nD) (v2 : BitVec 32) (v151 : BitVec 32) (Kt : _ → sProp 𝕄) :
    records m K ⊢ iprop(P0 (.z 0 0) c -∗ landAny (.z 0 0) c (peer (.z 0 0) c) -∗ srcPts m (.z 0 0) c -∗ P0 (.z 0 1) c -∗ landAny (.z 0 1) c (peer (.z 0 1) c) -∗ srcPts m (.z 0 1) c -∗ owesW c (left 13)
        -∗ (P1 (.z 0 0) c -∗ P1 (.z 0 1) c -∗ owesW c (left 15) -∗ (∀ a b, Kt ⟨a, b⟩))
        -∗ runs c (onArgs (k0_part7 (F := F)) c v2 v151) Kt) := by
  rw [k0_part7_eq_skeleton]
  unfold runs onArgs k0_part7_skel
  simp only [semSignalWord, semWaitWord, Prog.lift, Prog.bind_op, Prog.bind_ret, Prog.pure_eq_ret, wp_deviceId]
  iintro #HR HP0z00 Hlandz00 Hsrcz00 HP0z01 Hlandz01 Hsrcz01 HO Hk
  iapply (send m K (.z 0 0) (dev14_eq c) 13 rfl rfl rfl rfl rfl) $$ HR HP0z00 Hlandz00 Hsrcz00 HO
  iintro HP1z00 HO
  iapply (send m K (.z 0 1) (dev15_eq c) 14 rfl rfl rfl rfl rfl) $$ HR HP0z01 Hlandz01 Hsrcz01 HO
  iintro HP1z01 HO
  iapply done
  iapply Hk $$ HP1z00 HP1z01 HO

/-- The third, and two landings of half 1. -/
theorem part8 (c : Dev nD) (v77 : BitVec 32) (v90 : BitVec 32) (v103 : BitVec 32) (Kt : _ → sProp 𝕄) :
    records m K ⊢ iprop(levAts L lv -∗ P0 (.z 0 2) c -∗ landAny (.z 0 2) c (peer (.z 0 2) c) -∗ srcPts m (.z 0 2) c -∗ P1 (.rs 1 0) c -∗ P1 (.rs 1 1) c -∗ owesW c (left 15)
        -∗ (P1 (.z 0 2) c -∗ P2 (.rs 1 0) c -∗ landPay m (.rs 1 0) c -∗ P2 (.rs 1 1) c -∗ landPay m (.rs 1 1) c -∗ owesW c (left 16) -∗ Kt ⟨⟩)
        -∗ runs c (onArgs (k0_part8 (F := F)) c v77 v90 v103) Kt) := by
  rw [k0_part8_eq_skeleton]
  unfold runs onArgs k0_part8_skel
  simp only [semSignalWord, semWaitWord, Prog.lift, Prog.bind_op, Prog.bind_ret, Prog.pure_eq_ret, wp_deviceId]
  iintro #HR #HL HP0z02 Hlandz02 Hsrcz02 HP1r10 HP1r11 HO Hk
  iapply (send m K (.z 0 2) (dev16_eq c) 15 rfl rfl rfl rfl rfl) $$ HR HP0z02 Hlandz02 Hsrcz02 HO
  iintro HP1z02 HO
  iapply (recv m K (.rs 1 0) 16 (by decide +kernel) rfl rfl rfl) $$ HR HL HP1r10 HO
  iintro HP2r10 Hlpr10 HO
  iapply (recv m K (.rs 1 1) 16 (by decide +kernel) rfl rfl rfl) $$ HR HL HP1r11 HO
  iintro HP2r11 Hlpr11 HO
  iapply done
  iapply Hk $$ HP1z02 HP2r10 Hlpr10 HP2r11 Hlpr11 HO

/-- The last landing of half 1: its sum over the group is stored, and lent to the pair copy. -/
theorem part9 (c : Dev nD) (v2 : BitVec 32) (v12 : BitVec 32) (Kt : _ → sProp 𝕄) :
    records m K ⊢ iprop(levAts L lv -∗ P1 (.rs 1 2) c -∗ blk (rowsAt xM 1 (pos c)) c fullShare (xB m c) -∗ landPay m (.rs 1 0) c -∗ landPay m (.rs 1 1) c -∗ (∃ f, blk (slotM accM 1 0) c fullShare f) -∗ owesW c (left 16)
        -∗ (P2 (.rs 1 2) c -∗ blk (rowsAt xM 1 (pos c)) c fullShare (xB m c) -∗ landPay m (.rs 1 0) c -∗ landPay m (.rs 1 1) c -∗ landPay m (.rs 1 2) c -∗ blk (slotM accM 1 0) c (shareDrop fullShare 1) (accB m c) -∗ srcPts m (.y 1) c -∗ owesW c (left 16) -∗ (∀ a, Kt a))
        -∗ runs c (onArgs (k0_part9 (F := F)) c v2 v12) Kt) := by
  rw [k0_part9_eq_skeleton]
  unfold runs onArgs k0_part9_skel
  simp only [semSignalWord, semWaitWord, Prog.lift, Prog.bind_op, Prog.bind_ret, Prog.pure_eq_ret, wp_deviceId]
  iintro #HR #HL HP1r12 Hx1 Hlpr10 Hlpr11 HAu10 HO Hk
  iapply (recv m K (.rs 1 2) 16 (by decide +kernel) rfl rfl rfl) $$ HR HL HP1r12 HO
  iintro HP2r12 Hlpr12 HO
  iapply (load_at xM 1 (pos c) (off2_eq c 1) _ c fullShare (xB m c)) $$ Hx1
  iintro Hx1
  iapply (loadR m 1 0) $$ Hlpr10
  iintro Hlpr10
  iapply (loadR m 1 1) $$ Hlpr11
  iintro Hlpr11
  iapply (loadR m 1 2) $$ Hlpr12
  iintro Hlpr12
  icases HAu10 with ⟨%fa, HAu10⟩
  iapply (load_slot accM 1 0 c fullShare fa) $$ HAu10
  iintro HAu10
  iapply (storeA m 1 0 fa (pay2_eq m c)) $$ HAu10
  iintro HA10
  ihave HB := (lend_y m 1 0 rfl c) $$ HA10
  icases HB with ⟨HA10, Hsrcy1⟩
  iapply done
  iapply Hk $$ HP2r12 Hx1 Hlpr10 Hlpr11 Hlpr12 HA10 Hsrcy1 HO

end Cert.AllReduce

end
-- ==== Proof.PartsB.lean ====
/-
# The body, part by part: the sums along the long axis and over the pair
-/
module

public import proofs.«01_k».proof.Proof.PartsA

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-- The pair copy of half 1, two landings along the long axis. -/
theorem part10 (c : Dev nD) (v151 : BitVec 32) (v162 : BitVec 32) (Kt : _ → sProp 𝕄) :
    records m K ⊢ iprop(levAts L lv -∗ P0 (.y 1) c -∗ landAny (.y 1) c (peer (.y 1) c) -∗ srcPts m (.y 1) c -∗ P1 (.z 0 0) c -∗ P1 (.z 0 1) c -∗ owesW c (left 16)
        -∗ (P1 (.y 1) c -∗ P2 (.z 0 0) c -∗ landPay m (.z 0 0) c -∗ P2 (.z 0 1) c -∗ landPay m (.z 0 1) c -∗ owesW c (left 17) -∗ Kt ⟨⟩)
        -∗ runs c (onArgs (k0_part10 (F := F)) c v151 v162) Kt) := by
  rw [k0_part10_eq_skeleton]
  unfold runs onArgs k0_part10_skel
  simp only [semSignalWord, semWaitWord, Prog.lift, Prog.bind_op, Prog.bind_ret, Prog.pure_eq_ret, wp_deviceId]
  iintro #HR #HL HP0y1 Hlandy1 Hsrcy1 HP1z00 HP1z01 HO Hk
  iapply (send m K (.y 1) (dev17_eq c) 16 rfl rfl rfl rfl rfl) $$ HR HP0y1 Hlandy1 Hsrcy1 HO
  iintro HP1y1 HO
  iapply (recv m K (.z 0 0) 17 (by decide +kernel) rfl rfl rfl) $$ HR HL HP1z00 HO
  iintro HP2z00 Hlpz00 HO
  iapply (recv m K (.z 0 1) 17 (by decide +kernel) rfl rfl rfl) $$ HR HL HP1z01 HO
  iintro HP2z01 Hlpz01 HO
  iapply done
  iapply Hk $$ HP1y1 HP2z00 Hlpz00 HP2z01 Hlpz01 HO

/-- The third: half 0's sum along the long axis is stored, and lent to the pair copy. -/
theorem part11 (c : Dev nD) (v2 : BitVec 32) (v173 : BitVec 32) (Kt : _ → sProp 𝕄) :
    records m K ⊢ iprop(levAts L lv -∗ P1 (.z 0 2) c -∗ blk (slotM accM 0 0) c (shareDrop fullShare 3) (accB m c) -∗ landPay m (.z 0 0) c -∗ landPay m (.z 0 1) c -∗ (∃ f, blk (slotM accM 0 1) c fullShare f) -∗ owesW c (left 17)
        -∗ (P2 (.z 0 2) c -∗ blk (slotM accM 0 0) c (shareDrop fullShare 3) (accB m c) -∗ landPay m (.z 0 0) c -∗ landPay m (.z 0 1) c -∗ landPay m (.z 0 2) c -∗ blk (slotM accM 0 1) c (shareDrop fullShare 1) (accB m c) -∗ srcPts m (.y 0) c -∗ owesW c (left 17) -∗ (∀ a, Kt a))
        -∗ runs c (onArgs (k0_part11 (F := F)) v2 v173) Kt) := by
  rw [k0_part11_eq_skeleton]
  unfold runs onArgs k0_part11_skel
  simp only [semSignalWord, semWaitWord, Prog.lift, Prog.bind_op, Prog.bind_ret, Prog.pure_eq_ret, wp_deviceId]
  iintro #HR #HL HP1z02 HA00 Hlpz00 Hlpz01 HAu01 HO Hk
  iapply (recv m K (.z 0 2) 17 (by decide +kernel) rfl rfl rfl) $$ HR HL HP1z02 HO
  iintro HP2z02 Hlpz02 HO
  iapply (load_slot accM 0 0 c (shareDrop fullShare 3) (accB m c)) $$ HA00
  iintro HA00
  iapply (loadZ m 0 0) $$ Hlpz00
  iintro Hlpz00
  iapply (loadZ m 0 1) $$ Hlpz01
  iintro Hlpz01
  iapply (loadZ m 0 2) $$ Hlpz02
  iintro Hlpz02
  icases HAu01 with ⟨%fa, HAu01⟩
  iapply (load_slot accM 0 1 c fullShare fa) $$ HAu01
  iintro HAu01
  iapply (storeA m 0 1 fa (pay3_eq m c)) $$ HAu01
  iintro HA01
  ihave HB := (lend_y m 0 1 rfl c) $$ HA01
  icases HB with ⟨HA01, Hsrcy0⟩
  iapply done
  iapply Hk $$ HP2z02 HA00 Hlpz00 Hlpz01 Hlpz02 HA01 Hsrcy0 HO

/-- The pair copy of half 0; the pair sum of half 1 is stored, and lent to its copies along the long axis. -/
theorem part12 (c : Dev nD) (v2 : BitVec 32) (v222 : BitVec 32) (v271 : BitVec 32) (Kt : _ → sProp 𝕄) :
    records m K ⊢ iprop(levAts L lv -∗ P0 (.y 0) c -∗ landAny (.y 0) c (peer (.y 0) c) -∗ srcPts m (.y 0) c -∗ P1 (.y 1) c -∗ blk (slotM accM 1 0) c (shareDrop fullShare 1) (accB m c) -∗ (∃ f, blk (slotM accM 1 1) c fullShare f) -∗ owesW c (left 17)
        -∗ (P1 (.y 0) c -∗ P2 (.y 1) c -∗ blk (slotM accM 1 0) c (shareDrop fullShare 1) (accB m c) -∗ landPay m (.y 1) c -∗ blk (slotM accM 1 1) c (shareDrop fullShare 3) (accB m c) -∗ srcPts m (.z 1 0) c -∗ srcPts m (.z 1 1) c -∗ srcPts m (.z 1 2) c -∗ owesW c (left 18) -∗ (∀ a, Kt a))
        -∗ runs c (onArgs (k0_part12 (F := F)) c v2 v222 v271) Kt) := by
  rw [k0_part12_eq_skeleton]
  unfold runs onArgs k0_part12_skel
  simp only [semSignalWord, semWaitWord, Prog.lift, Prog.bind_op, Prog.bind_ret, Prog.pure_eq_ret, wp_deviceId]
  iintro #HR #HL HP0y0 Hlandy0 Hsrcy0 HP1y1 HA10 HAu11 HO Hk
  iapply (send m K (.y 0) (dev18_eq c) 17 rfl rfl rfl rfl rfl) $$ HR HP0y0 Hlandy0 Hsrcy0 HO
  iintro HP1y0 HO
  iapply (recv m K (.y 1) 18 (by decide +kernel) rfl rfl rfl) $$ HR HL HP1y1 HO
  iintro HP2y1 Hlpy1 HO
  iapply (load_slot accM 1 0 c (shareDrop fullShare 1) (accB m c)) $$ HA10
  iintro HA10
  iapply (loadY m 1) $$ Hlpy1
  iintro Hlpy1
  icases HAu11 with ⟨%fa, HAu11⟩
  iapply (load_slot accM 1 1 c fullShare fa) $$ HAu11
  iintro HAu11
  iapply (storeA m 1 1 fa (pay4_eq m c)) $$ HAu11
  iintro HA11
  ihave HB := (lend_z m 1 1 rfl c) $$ HA11
  icases HB with ⟨HA11, Hsrcz10, Hsrcz11, Hsrcz12⟩
  iapply done
  iapply Hk $$ HP1y0 HP2y1 HA10 Hlpy1 HA11 Hsrcz10 Hsrcz11 Hsrcz12 HO

/-- Two copies of half 1 along the long axis. -/
theorem part13 (c : Dev nD) (v2 : BitVec 32) (v298 : BitVec 32) (Kt : _ → sProp 𝕄) :
    records m K ⊢ iprop(P0 (.z 1 0) c -∗ landAny (.z 1 0) c (peer (.z 1 0) c) -∗ srcPts m (.z 1 0) c -∗ P0 (.z 1 1) c -∗ landAny (.z 1 1) c (peer (.z 1 1) c) -∗ srcPts m (.z 1 1) c -∗ owesW c (left 18)
        -∗ (P1 (.z 1 0) c -∗ P1 (.z 1 1) c -∗ owesW c (left 20) -∗ (∀ a b, Kt ⟨a, b⟩))
        -∗ runs c (onArgs (k0_part13 (F := F)) c v2 v298) Kt) := by
  rw [k0_part13_eq_skeleton]
  unfold runs onArgs k0_part13_skel
  simp only [semSignalWord, semWaitWord, Prog.lift, Prog.bind_op, Prog.bind_ret, Prog.pure_eq_ret, wp_deviceId]
  iintro #HR HP0z10 Hlandz10 Hsrcz10 HP0z11 Hlandz11 Hsrcz11 HO Hk
  iapply (send m K (.z 1 0) (dev19_eq c) 18 rfl rfl rfl rfl rfl) $$ HR HP0z10 Hlandz10 Hsrcz10 HO
  iintro HP1z10 HO
  iapply (send m K (.z 1 1) (dev20_eq c) 19 rfl rfl rfl rfl rfl) $$ HR HP0z11 Hlandz11 Hsrcz11 HO
  iintro HP1z11 HO
  iapply done
  iapply Hk $$ HP1z10 HP1z11 HO

/-- The third; half 0's pair sum is stored. -/
theorem part14 (c : Dev nD) (v271 : BitVec 32) (v320 : BitVec 32) (Kt : _ → sProp 𝕄) :
    records m K ⊢ iprop(levAts L lv -∗ P0 (.z 1 2) c -∗ landAny (.z 1 2) c (peer (.z 1 2) c) -∗ srcPts m (.z 1 2) c -∗ P1 (.y 0) c -∗ blk (slotM accM 0 1) c (shareDrop fullShare 1) (accB m c) -∗ (∃ f, blk (slotM accM 0 2) c fullShare f) -∗ owesW c (left 20)
        -∗ (P1 (.z 1 2) c -∗ P2 (.y 0) c -∗ blk (slotM accM 0 1) c (shareDrop fullShare 1) (accB m c) -∗ landPay m (.y 0) c -∗ blk (slotM accM 0 2) c fullShare (accB m c) -∗ owesW c (left 21) -∗ Kt ⟨⟩)
        -∗ runs c (onArgs (k0_part14 (F := F)) c v271 v320) Kt) := by
  rw [k0_part14_eq_skeleton]
  unfold runs onArgs k0_part14_skel
  simp only [semSignalWord, semWaitWord, Prog.lift, Prog.bind_op, Prog.bind_ret, Prog.pure_eq_ret, wp_deviceId]
  iintro #HR #HL HP0z12 Hlandz12 Hsrcz12 HP1y0 HA01 HAu02 HO Hk
  iapply (send m K (.z 1 2) (dev21_eq c) 20 rfl rfl rfl rfl rfl) $$ HR HP0z12 Hlandz12 Hsrcz12 HO
  iintro HP1z12 HO
  iapply (recv m K (.y 0) 21 (by decide +kernel) rfl rfl rfl) $$ HR HL HP1y0 HO
  iintro HP2y0 Hlpy0 HO
  iapply (load_slot accM 0 1 c (shareDrop fullShare 1) (accB m c)) $$ HA01
  iintro HA01
  iapply (loadY m 0) $$ Hlpy0
  iintro Hlpy0
  icases HAu02 with ⟨%fa, HAu02⟩
  iapply (load_slot accM 0 2 c fullShare fa) $$ HAu02
  iintro HAu02
  iapply (storeA m 0 2 fa (pay5_eq m c)) $$ HAu02
  iintro HA02
  iapply done
  iapply Hk $$ HP1z12 HP2y0 HA01 Hlpy0 HA02 HO

/-- Half 0 is put in the result, and lent to the copies that share it out. -/
theorem part15 (c : Dev nD) (v2 : BitVec 32) (v12 : BitVec 32) (Kt : _ → sProp 𝕄) :
    records m K ⊢ iprop(blk (slotM accM 0 2) c fullShare (accB m c) -∗ (∃ f, blk (rowsAt oM 0 (pos c)) c fullShare f) -∗ P0 (.ag 0 0) c -∗ landAny (.ag 0 0) c (peer (.ag 0 0) c) -∗ owesW c (left 21)
        -∗ (blk (slotM accM 0 2) c fullShare (accB m c) -∗ blk (rowsAt oM 0 (pos c)) c (shareDrop fullShare 3) (outB m c) -∗ srcPts m (.ag 0 1) c -∗ srcPts m (.ag 0 2) c -∗ P1 (.ag 0 0) c -∗ owesW c (left 22) -∗ (∀ a b, Kt ⟨a, b⟩))
        -∗ runs c (onArgs (k0_part15 (F := F)) c v2 v12) Kt) := by
  rw [k0_part15_eq_skeleton]
  unfold runs onArgs k0_part15_skel
  simp only [semSignalWord, semWaitWord, Prog.lift, Prog.bind_op, Prog.bind_ret, Prog.pure_eq_ret, wp_deviceId]
  iintro #HR HA02 HOu0 HP0a00 Hlanda00 HO Hk
  iapply (load_slot accM 0 2 c fullShare (accB m c)) $$ HA02
  iintro HA02
  icases HOu0 with ⟨%fo, HOu0⟩
  iapply (load_at oM 0 (pos c) (off2_eq c 0) _ c fullShare fo) $$ HOu0
  iintro HOu0
  iapply (storeO m 0 (off2_eq c 0) _ fo (pay6_eq m c)) $$ HOu0
  iintro HO0
  ihave HB := (lend_ag m 0 c) $$ HO0
  icases HB with ⟨HO0, Hsrca00, Hsrca01, Hsrca02⟩
  iapply (send m K (.ag 0 0) (dev22_eq c) 21 rfl rfl rfl rfl rfl) $$ HR HP0a00 Hlanda00 Hsrca00 HO
  iintro HP1a00 HO
  iapply done
  iapply Hk $$ HA02 HO0 Hsrca01 Hsrca02 HP1a00 HO

/-- Two of those, and a landing of half 1 along the long axis. -/
theorem part16 (c : Dev nD) (v2 : BitVec 32) (v12 : BitVec 32) (v298 : BitVec 32) (Kt : _ → sProp 𝕄) :
    records m K ⊢ iprop(levAts L lv -∗ P0 (.ag 0 1) c -∗ landAny (.ag 0 1) c (peer (.ag 0 1) c) -∗ srcPts m (.ag 0 1) c -∗ P0 (.ag 0 2) c -∗ landAny (.ag 0 2) c (peer (.ag 0 2) c) -∗ srcPts m (.ag 0 2) c -∗ P1 (.z 1 0) c -∗ owesW c (left 22)
        -∗ (P1 (.ag 0 1) c -∗ P1 (.ag 0 2) c -∗ P2 (.z 1 0) c -∗ landPay m (.z 1 0) c -∗ owesW c (left 24) -∗ (∀ a, Kt a))
        -∗ runs c (onArgs (k0_part16 (F := F)) c v2 v12 v298) Kt) := by
  rw [k0_part16_eq_skeleton]
  unfold runs onArgs k0_part16_skel
  simp only [semSignalWord, semWaitWord, Prog.lift, Prog.bind_op, Prog.bind_ret, Prog.pure_eq_ret, wp_deviceId]
  iintro #HR #HL HP0a01 Hlanda01 Hsrca01 HP0a02 Hlanda02 Hsrca02 HP1z10 HO Hk
  iapply (send m K (.ag 0 1) (dev23_eq c) 22 rfl rfl rfl rfl rfl) $$ HR HP0a01 Hlanda01 Hsrca01 HO
  iintro HP1a01 HO
  iapply (send m K (.ag 0 2) (dev24_eq c) 23 rfl rfl rfl rfl rfl) $$ HR HP0a02 Hlanda02 Hsrca02 HO
  iintro HP1a02 HO
  iapply (recv m K (.z 1 0) 24 (by decide +kernel) rfl rfl rfl) $$ HR HL HP1z10 HO
  iintro HP2z10 Hlpz10 HO
  iapply done
  iapply Hk $$ HP1a01 HP1a02 HP2z10 Hlpz10 HO

/-- The other two landings, and the first loads of the last sum. -/
theorem part17 (c : Dev nD) (v309 : BitVec 32) (v320 : BitVec 32) (Kt : _ → sProp 𝕄) :
    records m K ⊢ iprop(levAts L lv -∗ P1 (.z 1 1) c -∗ P1 (.z 1 2) c -∗ blk (slotM accM 1 1) c (shareDrop fullShare 3) (accB m c) -∗ landPay m (.z 1 0) c -∗ owesW c (left 24)
        -∗ (P2 (.z 1 1) c -∗ P2 (.z 1 2) c -∗ landPay m (.z 1 2) c -∗ blk (slotM accM 1 1) c (shareDrop fullShare 3) (accB m c) -∗ landPay m (.z 1 0) c -∗ landPay m (.z 1 1) c -∗ owesW c (left 24) -∗ Kt ⟨k0_pay7 (ldA m c 1 1) (ldZ m c 1 0), ldZ m c 1 1⟩)
        -∗ runs c (onArgs (k0_part17 (F := F)) v309 v320) Kt) := by
  rw [k0_part17_eq_skeleton]
  unfold runs onArgs k0_part17_skel
  simp only [semSignalWord, semWaitWord, Prog.lift, Prog.bind_op, Prog.bind_ret, Prog.pure_eq_ret, wp_deviceId]
  iintro #HR #HL HP1z11 HP1z12 HA11 Hlpz10 HO Hk
  iapply (recv m K (.z 1 1) 24 (by decide +kernel) rfl rfl rfl) $$ HR HL HP1z11 HO
  iintro HP2z11 Hlpz11 HO
  iapply (recv m K (.z 1 2) 24 (by decide +kernel) rfl rfl rfl) $$ HR HL HP1z12 HO
  iintro HP2z12 Hlpz12 HO
  iapply (load_slot accM 1 1 c (shareDrop fullShare 3) (accB m c)) $$ HA11
  iintro HA11
  iapply (loadZ m 1 0) $$ Hlpz10
  iintro Hlpz10
  iapply (loadZ m 1 1) $$ Hlpz11
  iintro Hlpz11
  iapply done
  iapply Hk $$ HP2z11 HP2z12 Hlpz12 HA11 Hlpz10 Hlpz11 HO

/-- The last sum is stored and put in the result; half 1 is lent to the copies that share it out. -/
theorem part18 (c : Dev nD) (v2 : BitVec 32) (v12 : BitVec 32) (Kt : _ → sProp 𝕄) :
    records m K ⊢ iprop(landPay m (.z 1 2) c -∗ (∃ f, blk (slotM accM 1 2) c fullShare f) -∗ (∃ f, blk (rowsAt oM 1 (pos c)) c fullShare f) -∗ P0 (.ag 1 0) c -∗ landAny (.ag 1 0) c (peer (.ag 1 0) c) -∗ owesW c (left 24)
        -∗ (landPay m (.z 1 2) c -∗ blk (slotM accM 1 2) c fullShare (accB m c) -∗ blk (rowsAt oM 1 (pos c)) c (shareDrop fullShare 3) (outB m c) -∗ srcPts m (.ag 1 1) c -∗ srcPts m (.ag 1 2) c -∗ P1 (.ag 1 0) c -∗ owesW c (left 25) -∗ (∀ a b, Kt ⟨a, b⟩))
        -∗ runs c (onArgs (k0_part18 (F := F)) c v2 v12 (k0_pay7 (ldA m c 1 1) (ldZ m c 1 0)) (ldZ m c 1 1)) Kt) := by
  rw [k0_part18_eq_skeleton]
  unfold runs onArgs k0_part18_skel
  simp only [semSignalWord, semWaitWord, Prog.lift, Prog.bind_op, Prog.bind_ret, Prog.pure_eq_ret, wp_deviceId]
  iintro #HR Hlpz12 HAu12 HOu1 HP0a10 Hlanda10 HO Hk
  iapply (loadZ m 1 2) $$ Hlpz12
  iintro Hlpz12
  icases HAu12 with ⟨%fa, HAu12⟩
  iapply (load_slot accM 1 2 c fullShare fa) $$ HAu12
  iintro HAu12
  iapply (storeA m 1 2 fa (pay8_eq m c)) $$ HAu12
  iintro HA12
  iapply (load_slot accM 1 2 c fullShare (accB m c)) $$ HA12
  iintro HA12
  icases HOu1 with ⟨%fo, HOu1⟩
  iapply (load_at oM 1 (pos c) (off2_eq c 1) _ c fullShare fo) $$ HOu1
  iintro HOu1
  iapply (storeO m 1 (off2_eq c 1) _ fo (pay9_eq m c)) $$ HOu1
  iintro HO1
  ihave HB := (lend_ag m 1 c) $$ HO1
  icases HB with ⟨HO1, Hsrca10, Hsrca11, Hsrca12⟩
  iapply (send m K (.ag 1 0) (dev25_eq c) 24 rfl rfl rfl rfl rfl) $$ HR HP0a10 Hlanda10 Hsrca10 HO
  iintro HP1a10 HO
  iapply done
  iapply Hk $$ Hlpz12 HA12 HO1 Hsrca11 Hsrca12 HP1a10 HO

end Cert.AllReduce

end
-- ==== Proof.PartsC.lean ====
/-
# The body, part by part: the last landings, and the sources back
-/
module

public import proofs.«01_k».proof.Proof.PartsA

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-- The last two copies. -/
theorem part19 (c : Dev nD) (v2 : BitVec 32) (v12 : BitVec 32) (v357 : BitVec 32) (v449 : BitVec 32) (Kt : _ → sProp 𝕄) :
    records m K ⊢ iprop(P0 (.ag 1 1) c -∗ landAny (.ag 1 1) c (peer (.ag 1 1) c) -∗ srcPts m (.ag 1 1) c -∗ P0 (.ag 1 2) c -∗ landAny (.ag 1 2) c (peer (.ag 1 2) c) -∗ srcPts m (.ag 1 2) c -∗ owesW c (left 25)
        -∗ (P1 (.ag 1 1) c -∗ P1 (.ag 1 2) c -∗ owesW c (left 27) -∗ (∀ a b, Kt ⟨a, b⟩))
        -∗ runs c (onArgs (k0_part19 (F := F)) c v2 v12 v357 v449) Kt) := by
  rw [k0_part19_eq_skeleton]
  unfold runs onArgs k0_part19_skel
  simp only [semSignalWord, semWaitWord, Prog.lift, Prog.bind_op, Prog.bind_ret, Prog.pure_eq_ret, wp_deviceId]
  iintro #HR HP0a11 Hlanda11 Hsrca11 HP0a12 Hlanda12 Hsrca12 HO Hk
  iapply (send m K (.ag 1 1) (dev26_eq c) 25 rfl rfl rfl rfl rfl) $$ HR HP0a11 Hlanda11 Hsrca11 HO
  iintro HP1a11 HO
  iapply (send m K (.ag 1 2) (dev27_eq c) 26 rfl rfl rfl rfl rfl) $$ HR HP0a12 Hlanda12 Hsrca12 HO
  iintro HP1a12 HO
  iapply done
  iapply Hk $$ HP1a11 HP1a12 HO

/-- Four landings of the result. -/
theorem part20 (c : Dev nD) (v370 : BitVec 32) (v383 : BitVec 32) (v440 : BitVec 32) (v453 : BitVec 32) (Kt : _ → sProp 𝕄) :
    records m K ⊢ iprop(levAts L lv -∗ P1 (.ag 0 0) c -∗ P1 (.ag 0 1) c -∗ P1 (.ag 0 2) c -∗ P1 (.ag 1 0) c -∗ owesW c (left 27)
        -∗ (P2 (.ag 0 0) c -∗ landPay m (.ag 0 0) c -∗ P2 (.ag 0 1) c -∗ landPay m (.ag 0 1) c -∗ P2 (.ag 0 2) c -∗ landPay m (.ag 0 2) c -∗ P2 (.ag 1 0) c -∗ landPay m (.ag 1 0) c -∗ owesW c (left 27) -∗ Kt ⟨⟩)
        -∗ runs c (onArgs (k0_part20 (F := F)) c v370 v383 v440 v453) Kt) := by
  rw [k0_part20_eq_skeleton]
  unfold runs onArgs k0_part20_skel
  simp only [semSignalWord, semWaitWord, Prog.lift, Prog.bind_op, Prog.bind_ret, Prog.pure_eq_ret, wp_deviceId]
  iintro #HR #HL HP1a00 HP1a01 HP1a02 HP1a10 HO Hk
  iapply (recv m K (.ag 0 0) 27 (by decide +kernel) rfl rfl rfl) $$ HR HL HP1a00 HO
  iintro HP2a00 Hlpa00 HO
  iapply (recv m K (.ag 0 1) 27 (by decide +kernel) rfl rfl rfl) $$ HR HL HP1a01 HO
  iintro HP2a01 Hlpa01 HO
  iapply (recv m K (.ag 0 2) 27 (by decide +kernel) rfl rfl rfl) $$ HR HL HP1a02 HO
  iintro HP2a02 Hlpa02 HO
  iapply (recv m K (.ag 1 0) 27 (by decide +kernel) rfl rfl rfl) $$ HR HL HP1a10 HO
  iintro HP2a10 Hlpa10 HO
  iapply done
  iapply Hk $$ HP2a00 Hlpa00 HP2a01 Hlpa01 HP2a02 Hlpa02 HP2a10 Hlpa10 HO

/-- Two more, and the first two sources back. -/
theorem part21 (c : Dev nD) (v466 : BitVec 32) (Kt : _ → sProp 𝕄) :
    records m K ⊢ iprop(levAts L lv -∗ P1 (.ag 1 1) c -∗ P1 (.ag 1 2) c -∗ P2 (.rs 0 0) c -∗ P2 (.rs 0 1) c -∗ owesW c (left 27)
        -∗ (P2 (.ag 1 1) c -∗ landPay m (.ag 1 1) c -∗ P2 (.ag 1 2) c -∗ landPay m (.ag 1 2) c -∗ P3 (.rs 0 0) c -∗ srcPts m (.rs 0 0) c -∗ P3 (.rs 0 1) c -∗ srcPts m (.rs 0 1) c -∗ owesW c (left 27) -∗ Kt ⟨⟩)
        -∗ runs c (onArgs (k0_part21 (F := F)) c v466) Kt) := by
  rw [k0_part21_eq_skeleton]
  unfold runs onArgs k0_part21_skel
  simp only [semSignalWord, semWaitWord, Prog.lift, Prog.bind_op, Prog.bind_ret, Prog.pure_eq_ret, wp_deviceId]
  iintro #HR #HL HP1a11 HP1a12 HP2r00 HP2r01 HO Hk
  iapply (recv m K (.ag 1 1) 27 (by decide +kernel) rfl rfl rfl) $$ HR HL HP1a11 HO
  iintro HP2a11 Hlpa11 HO
  iapply (recv m K (.ag 1 2) 27 (by decide +kernel) rfl rfl rfl) $$ HR HL HP1a12 HO
  iintro HP2a12 Hlpa12 HO
  iapply (free m K (.rs 0 0) rfl rfl rfl) $$ HR HP2r00 HO
  iintro HP3r00 Hsrcr00 HO
  iapply (free m K (.rs 0 1) rfl rfl rfl) $$ HR HP2r01 HO
  iintro HP3r01 Hsrcr01 HO
  iapply done
  iapply Hk $$ HP2a11 Hlpa11 HP2a12 Hlpa12 HP3r00 Hsrcr00 HP3r01 Hsrcr01 HO

/-- Four more sources back. -/
theorem part22 (c : Dev nD) (Kt : _ → sProp 𝕄) :
    records m K ⊢ iprop(P2 (.rs 0 2) c -∗ P2 (.rs 1 0) c -∗ P2 (.rs 1 1) c -∗ P2 (.rs 1 2) c -∗ owesW c (left 27)
        -∗ (P3 (.rs 0 2) c -∗ srcPts m (.rs 0 2) c -∗ P3 (.rs 1 0) c -∗ srcPts m (.rs 1 0) c -∗ P3 (.rs 1 1) c -∗ srcPts m (.rs 1 1) c -∗ P3 (.rs 1 2) c -∗ srcPts m (.rs 1 2) c -∗ owesW c (left 27) -∗ Kt ⟨⟩)
        -∗ runs c (onArgs (k0_part22 (F := F)) c) Kt) := by
  rw [k0_part22_eq_skeleton]
  unfold runs onArgs k0_part22_skel
  simp only [semSignalWord, semWaitWord, Prog.lift, Prog.bind_op, Prog.bind_ret, Prog.pure_eq_ret, wp_deviceId]
  iintro #HR HP2r02 HP2r10 HP2r11 HP2r12 HO Hk
  iapply (free m K (.rs 0 2) rfl rfl rfl) $$ HR HP2r02 HO
  iintro HP3r02 Hsrcr02 HO
  iapply (free m K (.rs 1 0) rfl rfl rfl) $$ HR HP2r10 HO
  iintro HP3r10 Hsrcr10 HO
  iapply (free m K (.rs 1 1) rfl rfl rfl) $$ HR HP2r11 HO
  iintro HP3r11 Hsrcr11 HO
  iapply (free m K (.rs 1 2) rfl rfl rfl) $$ HR HP2r12 HO
  iintro HP3r12 Hsrcr12 HO
  iapply done
  iapply Hk $$ HP3r02 Hsrcr02 HP3r10 Hsrcr10 HP3r11 Hsrcr11 HP3r12 Hsrcr12 HO

/-- Three more. -/
theorem part23 (c : Dev nD) (Kt : _ → sProp 𝕄) :
    records m K ⊢ iprop(P2 (.z 0 0) c -∗ P2 (.z 0 1) c -∗ P2 (.z 0 2) c -∗ owesW c (left 27)
        -∗ (P3 (.z 0 0) c -∗ srcPts m (.z 0 0) c -∗ P3 (.z 0 1) c -∗ srcPts m (.z 0 1) c -∗ P3 (.z 0 2) c -∗ srcPts m (.z 0 2) c -∗ owesW c (left 27) -∗ Kt ⟨⟩)
        -∗ runs c (onArgs (k0_part23 (F := F))) Kt) := by
  rw [k0_part23_eq_skeleton]
  unfold runs onArgs k0_part23_skel
  simp only [semSignalWord, semWaitWord, Prog.lift, Prog.bind_op, Prog.bind_ret, Prog.pure_eq_ret, wp_deviceId]
  iintro #HR HP2z00 HP2z01 HP2z02 HO Hk
  iapply (free m K (.z 0 0) rfl rfl rfl) $$ HR HP2z00 HO
  iintro HP3z00 Hsrcz00 HO
  iapply (free m K (.z 0 1) rfl rfl rfl) $$ HR HP2z01 HO
  iintro HP3z01 Hsrcz01 HO
  iapply (free m K (.z 0 2) rfl rfl rfl) $$ HR HP2z02 HO
  iintro HP3z02 Hsrcz02 HO
  iapply done
  iapply Hk $$ HP3z00 Hsrcz00 HP3z01 Hsrcz01 HP3z02 Hsrcz02 HO

/-- Three more. -/
theorem part24 (c : Dev nD) (Kt : _ → sProp 𝕄) :
    records m K ⊢ iprop(P2 (.y 1) c -∗ P2 (.y 0) c -∗ P2 (.z 1 0) c -∗ owesW c (left 27)
        -∗ (P3 (.y 1) c -∗ srcPts m (.y 1) c -∗ P3 (.y 0) c -∗ srcPts m (.y 0) c -∗ P3 (.z 1 0) c -∗ srcPts m (.z 1 0) c -∗ owesW c (left 27) -∗ Kt ⟨⟩)
        -∗ runs c (onArgs (k0_part24 (F := F))) Kt) := by
  rw [k0_part24_eq_skeleton]
  unfold runs onArgs k0_part24_skel
  simp only [semSignalWord, semWaitWord, Prog.lift, Prog.bind_op, Prog.bind_ret, Prog.pure_eq_ret, wp_deviceId]
  iintro #HR HP2y1 HP2y0 HP2z10 HO Hk
  iapply (free m K (.y 1) rfl rfl rfl) $$ HR HP2y1 HO
  iintro HP3y1 Hsrcy1 HO
  iapply (free m K (.y 0) rfl rfl rfl) $$ HR HP2y0 HO
  iintro HP3y0 Hsrcy0 HO
  iapply (free m K (.z 1 0) rfl rfl rfl) $$ HR HP2z10 HO
  iintro HP3z10 Hsrcz10 HO
  iapply done
  iapply Hk $$ HP3y1 Hsrcy1 HP3y0 Hsrcy0 HP3z10 Hsrcz10 HO

/-- Four more. -/
theorem part25 (c : Dev nD) (Kt : _ → sProp 𝕄) :
    records m K ⊢ iprop(P2 (.z 1 1) c -∗ P2 (.z 1 2) c -∗ P2 (.ag 0 0) c -∗ P2 (.ag 0 1) c -∗ owesW c (left 27)
        -∗ (P3 (.z 1 1) c -∗ srcPts m (.z 1 1) c -∗ P3 (.z 1 2) c -∗ srcPts m (.z 1 2) c -∗ P3 (.ag 0 0) c -∗ srcPts m (.ag 0 0) c -∗ P3 (.ag 0 1) c -∗ srcPts m (.ag 0 1) c -∗ owesW c (left 27) -∗ Kt ⟨⟩)
        -∗ runs c (onArgs (k0_part25 (F := F)) c) Kt) := by
  rw [k0_part25_eq_skeleton]
  unfold runs onArgs k0_part25_skel
  simp only [semSignalWord, semWaitWord, Prog.lift, Prog.bind_op, Prog.bind_ret, Prog.pure_eq_ret, wp_deviceId]
  iintro #HR HP2z11 HP2z12 HP2a00 HP2a01 HO Hk
  iapply (free m K (.z 1 1) rfl rfl rfl) $$ HR HP2z11 HO
  iintro HP3z11 Hsrcz11 HO
  iapply (free m K (.z 1 2) rfl rfl rfl) $$ HR HP2z12 HO
  iintro HP3z12 Hsrcz12 HO
  iapply (free m K (.ag 0 0) rfl rfl rfl) $$ HR HP2a00 HO
  iintro HP3a00 Hsrca00 HO
  iapply (free m K (.ag 0 1) rfl rfl rfl) $$ HR HP2a01 HO
  iintro HP3a01 Hsrca01 HO
  iapply done
  iapply Hk $$ HP3z11 Hsrcz11 HP3z12 Hsrcz12 HP3a00 Hsrca00 HP3a01 Hsrca01 HO

end Cert.AllReduce

end
-- ==== Proof.Body.lean ====
/-
# The body as a whole

The pieces in order, every block back in one piece at the end.
-/
module

public import proofs.«01_k».proof.Proof.PartsB
public import proofs.«01_k».proof.Proof.PartsC

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-! ## A conjunction over copies, slots, halves or rows, written out -/

section Over
theorem over_T (Φ : T → sProp (MT nD τ sig Unit (Elt F) ℕ UU ℕ)) : bigSep Finset.univ Φ = iprop(Φ (.rs 0 0) ∗ Φ (.rs 0 1) ∗ Φ (.rs 0 2) ∗ Φ (.rs 1 0) ∗ Φ (.rs 1 1) ∗ Φ (.rs 1 2) ∗ Φ (.z 0 0) ∗ Φ (.z 0 1) ∗ Φ (.z 0 2) ∗ Φ (.y 1) ∗ Φ (.y 0) ∗ Φ (.z 1 0) ∗ Φ (.z 1 1) ∗ Φ (.z 1 2) ∗ Φ (.ag 0 0) ∗ Φ (.ag 0 1) ∗ Φ (.ag 0 2) ∗ Φ (.ag 1 0) ∗ Φ (.ag 1 1) ∗ Φ (.ag 1 2)) := by
  rw [bigSep_univ_eq_bigSepL Ts (by decide) (by decide)]
  simp only [Ts, bigSepL_cons_cons, bigSepL_singleton]; rfl
theorem over_T' (Φ : T → sProp (MT nD τ sig Unit (Elt F) ℕ UU ℕ)) : bigSep (Finset.univ.erase (T.rs 0 0)) Φ = iprop(Φ (.rs 0 1) ∗ Φ (.rs 0 2) ∗ Φ (.rs 1 0) ∗ Φ (.rs 1 1) ∗ Φ (.rs 1 2) ∗ Φ (.z 0 0) ∗ Φ (.z 0 1) ∗ Φ (.z 0 2) ∗ Φ (.y 1) ∗ Φ (.y 0) ∗ Φ (.z 1 0) ∗ Φ (.z 1 1) ∗ Φ (.z 1 2) ∗ Φ (.ag 0 0) ∗ Φ (.ag 0 1) ∗ Φ (.ag 0 2) ∗ Φ (.ag 1 0) ∗ Φ (.ag 1 1) ∗ Φ (.ag 1 2)) := by
  rw [bigSep_eq_bigSepL_of_eq Ts.tail (by decide) (by decide)]
  simp only [Ts, List.tail_cons, bigSepL_cons_cons, bigSepL_singleton]; rfl
theorem over_slots (Φ : Fin 2 × Fin 3 → sProp (MT nD τ sig Unit (Elt F) ℕ UU ℕ)) : bigSep Finset.univ Φ = iprop(Φ (0, 0) ∗ Φ (0, 1) ∗ Φ (0, 2) ∗ Φ (1, 0) ∗ Φ (1, 1) ∗ Φ (1, 2)) := by
  rw [bigSep_univ_eq_bigSepL [(0, 0), (0, 1), (0, 2), (1, 0), (1, 1), (1, 2)] (by decide) (by decide)]
  simp only [bigSepL_cons_cons, bigSepL_singleton]; rfl
theorem over_pairs (Φ : Fin 2 → sProp (MT nD τ sig Unit (Elt F) ℕ UU ℕ)) : bigSep Finset.univ Φ = iprop(Φ 0 ∗ Φ 1) := by
  rw [bigSep_univ_eq_bigSepL [0, 1] (by decide) (by decide)]
  simp only [bigSepL_cons_cons, bigSepL_singleton]; rfl
theorem over_par (Φ : Fin 7 → sProp (MT nD τ sig Unit (Elt F) ℕ UU ℕ)) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]; rfl

/-- The rows of a 256 × 256 array as device `c` sees them: its own and its partners'. -/
abbrev rowList (c : Dev nD) : List (Fin 2 × Fin 4) := [(0, pos c), (0, pos (par (quad 0) c)), (0, pos (par (quad 1) c)), (0, pos (par (quad 2) c)), (1, pos c), (1, pos (par (quad 0) c)), (1, pos (par (quad 1) c)), (1, pos (par (quad 2) c))]
theorem rowList_all : ∀ c : Dev nD, Finset.univ = (rowList c).toFinset := by decide +kernel
theorem rowList_nodup : ∀ c : Dev nD, (rowList c).Nodup := by decide +kernel
theorem over_rows (c : Dev nD) (Φ : Fin 2 × Fin 4 → sProp (MT nD τ sig Unit (Elt F) ℕ UU ℕ)) : bigSep Finset.univ Φ = iprop(Φ (0, pos c) ∗ Φ (0, pos (par (quad 0) c)) ∗ Φ (0, pos (par (quad 1) c)) ∗ Φ (0, pos (par (quad 2) c)) ∗ Φ (1, pos c) ∗ Φ (1, pos (par (quad 0) c)) ∗ Φ (1, pos (par (quad 1) c)) ∗ Φ (1, pos (par (quad 2) c))) := by
  rw [bigSep_univ_eq_bigSepL (rowList c) (rowList_all c) (rowList_nodup c)]
  simp only [rowList, bigSepL_cons_cons, bigSepL_singleton]; rfl
end Over

/-- The argument's rows: the device's own, and the sources of its first copies. -/
theorem rows_x (c : Dev nD) : (bigSep Finset.univ fun p : Fin 2 × Fin 4 => blk (rowsAt xM p.1 p.2) c fullShare (xB m c))
    = iprop(blk (rowsAt xM 0 (pos c)) c fullShare (xB m c) ∗ srcPts m (.rs 0 0) c ∗ srcPts m (.rs 0 1) c ∗ srcPts m (.rs 0 2) c ∗ blk (rowsAt xM 1 (pos c)) c fullShare (xB m c) ∗ srcPts m (.rs 1 0) c ∗ srcPts m (.rs 1 1) c ∗ srcPts m (.rs 1 2) c) := by
  rw [over_rows c]; simp only [srcPts_rs]
/-- The result's rows: the device's own, and the landings of its partners' last copies. -/
theorem rows_o (c : Dev nD) : (bigSep Finset.univ fun p : Fin 2 × Fin 4 => blk (rowsAt oM p.1 p.2) c fullShare (outB m c))
    = iprop(blk (rowsAt oM 0 (pos c)) c fullShare (outB m c) ∗ landPay m (.ag 0 0) c ∗ landPay m (.ag 0 1) c ∗ landPay m (.ag 0 2) c ∗ blk (rowsAt oM 1 (pos c)) c fullShare (outB m c) ∗ landPay m (.ag 1 0) c ∗ landPay m (.ag 1 1) c ∗ landPay m (.ag 1 2) c) := by
  have e (h : Fin 2) (k : Fin 3) : landPay m (.ag h k) c = blk (rowsAt oM h (pos (par (quad k) c))) c fullShare (outB m c) := landPts_ag h k _ c (outB m c)
  rw [over_rows c]; simp only [e]
/-- The slots of the three other arrays are the landings of the copies to them. -/
theorem slots_r (c : Dev nD) : (bigSep Finset.univ fun p : Fin 2 × Fin 3 => blk (slotM rsM p.1 p.2) c fullShare (rsB m c))
    = iprop(landPay m (.rs 0 0) c ∗ landPay m (.rs 0 1) c ∗ landPay m (.rs 0 2) c ∗ landPay m (.rs 1 0) c ∗ landPay m (.rs 1 1) c ∗ landPay m (.rs 1 2) c) := over_slots _
theorem slots_z (c : Dev nD) : (bigSep Finset.univ fun p : Fin 2 × Fin 3 => blk (slotM zM p.1 p.2) c fullShare (zB m c))
    = iprop(landPay m (.z 0 0) c ∗ landPay m (.z 0 1) c ∗ landPay m (.z 0 2) c ∗ landPay m (.z 1 0) c ∗ landPay m (.z 1 1) c ∗ landPay m (.z 1 2) c) := over_slots _
theorem pairs_y (c : Dev nD) : (bigSep Finset.univ fun h : Fin 2 => blk (pairM yM h) c fullShare (yB m c))
    = iprop(landPay m (.y 0) c ∗ landPay m (.y 1) c) := over_pairs _

/-! ## The lent shares back -/

theorem one_by_one {A B C D E : sProp (MT nD τ sig Unit (Elt F) ℕ UU ℕ)} (h : iprop(A ∗ B ∗ C ∗ D) ⊢ E) : A ⊢ iprop(B -∗ C -∗ D -∗ E) := by
  iintro HA HB HC HD
  iapply h
  isplitl [HA]; · iexact HA
  isplitl [HB]; · iexact HB
  isplitl [HC] <;> iassumption
theorem back_z (h : Fin 2) (k : Fin 3) (hk : k = zk h) (c : Dev nD) : blk (slotM accM h k) c (shareDrop fullShare 3) (accB m c)
    ⊢ iprop(srcPts m (.z h 0) c -∗ srcPts m (.z h 1) c -∗ srcPts m (.z h 2) c -∗ blk (slotM accM h k) c fullShare (accB m c)) := by
  subst hk; exact one_by_one (back3 (slotM accM h (zk h)) c (accB m c))
theorem back_y (h : Fin 2) (k : Fin 3) (hk : k = yk h) (c : Dev nD) : blk (slotM accM h k) c (shareDrop fullShare 1) (accB m c)
    ⊢ iprop(srcPts m (.y h) c -∗ blk (slotM accM h k) c fullShare (accB m c)) := by
  subst hk
  have e : iprop(blk (slotM accM h (yk h)) c (shareDrop fullShare 1) (accB m c) ∗ srcPts m (.y h) c) ⊢ blk (slotM accM h (yk h)) c fullShare (accB m c) :=
    back1 (slotM accM h (yk h)) c (accB m c)
  iintro H H0
  iapply e
  isplitl [H] <;> iassumption
theorem back_ag (h : Fin 2) (c : Dev nD) : blk (rowsAt oM h (pos c)) c (shareDrop fullShare 3) (outB m c)
    ⊢ iprop(srcPts m (.ag h 0) c -∗ srcPts m (.ag h 1) c -∗ srcPts m (.ag h 2) c -∗ blk (rowsAt oM h (pos c)) c fullShare (outB m c)) := by
  rw [srcPts_ag, srcPts_ag, srcPts_ag]
  exact one_by_one (back3 (rowsAt oM h (pos c)) c (outB m c))

/-- A piece run before the rest. -/
theorem first {α β : Type} {c : Dev nD} {p : Prog (TpuEff nD τ sig (Elt F) Λ₀ .tc) α} {k : α → Prog (TpuEff nD τ sig (Elt F) Λ₀ .tc) β}
    {Q : β → sProp (MT nD τ sig Unit (Elt F) ℕ UU ℕ)} : runs c p (fun v => runs c (k v) Q) ⊢ runs c (p >>= k) Q := by
  unfold runs; rw [wp_bind]

/-- The whole body on device `c`: from its rights, its unstarted copies, its argument, free slots in its accumulator and free
    rows of its own in the result, to every semaphore at zero, every array filled and nothing owed. -/
theorem body_run (c : Dev nD) (Q : PUnit → sProp 𝕄) :
    records m K ⊢ iprop(levAts L lv -∗ (bigSep Finset.univ fun i : Fin 7 => sigRes c i) -∗ atPos ER (barCell c) 0 ∅ 0 -∗ cred (tallyAt (barCell c) () 7)
        -∗ (bigSep Finset.univ fun t => P0 t c)
        -∗ (bigSep Finset.univ fun p : Fin 2 × Fin 4 => blk (rowsAt xM p.1 p.2) c fullShare (xB m c))
        -∗ (bigSep Finset.univ fun p : Fin 2 × Fin 3 => iprop(∃ f, blk (slotM accM p.1 p.2) c fullShare f))
        -∗ (∃ f, blk (rowsAt oM 0 (pos c)) c fullShare f) -∗ (∃ f, blk (rowsAt oM 1 (pos c)) c fullShare f) -∗ owesW c (left 0)
        -∗ (semVal (barCell c) 0 -∗ (bigSep Finset.univ fun t => P3 t c)
          -∗ (bigSep Finset.univ fun p : Fin 2 × Fin 4 => blk (rowsAt xM p.1 p.2) c fullShare (xB m c))
          -∗ (bigSep Finset.univ fun p : Fin 2 × Fin 3 => blk (slotM accM p.1 p.2) c fullShare (accB m c))
          -∗ (bigSep Finset.univ fun p : Fin 2 × Fin 3 => blk (slotM rsM p.1 p.2) c fullShare (rsB m c))
          -∗ (bigSep Finset.univ fun p : Fin 2 × Fin 3 => blk (slotM zM p.1 p.2) c fullShare (zB m c))
          -∗ (bigSep Finset.univ fun h : Fin 2 => blk (pairM yM h) c fullShare (yB m c))
          -∗ (bigSep Finset.univ fun p : Fin 2 × Fin 4 => blk (rowsAt oM p.1 p.2) c fullShare (outB m c))
          -∗ owesW c (left 27) -∗ Q ⟨⟩)
        -∗ runs c (onArgs (cc0_body (F := F))) Q) := by
  iintro #HR #HL HG Hbaratt Hbarcred HP HX HA HOu0 HOu1 HO Hk
  ihave HG := (Entails.of_eq (over_par _)) $$ HG
  icases HG with ⟨Hsig0, Hsig1, Hsig2, Hsig3, Hsig4, Hsig5, Hsig6⟩
  ihave HP := (Entails.of_eq (over_T _)) $$ HP
  icases HP with ⟨HP0r00, HP0r01, HP0r02, HP0r10, HP0r11, HP0r12, HP0z00, HP0z01, HP0z02, HP0y1, HP0y0, HP0z10, HP0z11, HP0z12, HP0a00, HP0a01, HP0a02, HP0a10, HP0a11, HP0a12⟩
  ihave HX := (Entails.of_eq (rows_x m c)) $$ HX
  icases HX with ⟨Hx0, Hsrcr00, Hsrcr01, Hsrcr02, Hx1, Hsrcr10, Hsrcr11, Hsrcr12⟩
  ihave HA := (Entails.of_eq (over_slots _)) $$ HA
  icases HA with ⟨HAu00, HAu01, HAu02, HAu10, HAu11, HAu12⟩
  rw [cc0_body_eq_skeleton]
  unfold onArgs cc0_body_skel
  iapply first
  rw [k0_part26_eq_skeleton]
  unfold k0_part26_skel
  iapply first
  iapply (part1 m K c _) $$ HR Hsig0 Hsig1 Hsig2 Hsig3 HO
  iintro HO %a1 %b1 %e1
  iapply first
  iapply (part2 m K c _ _ _ _) $$ HR HL Hsig4 Hsig5 Hsig6 Hbaratt Hbarcred HP0r00 Hsrcr00 HO
  iintro Hbarz Hlands HP1r00 HO %a2 %b2
  ihave Hlands := (Entails.of_eq (over_T' _)) $$ Hlands
  icases Hlands with ⟨Hlandr01, Hlandr02, Hlandr10, Hlandr11, Hlandr12, Hlandz00, Hlandz01, Hlandz02, Hlandy1, Hlandy0, Hlandz10, Hlandz11, Hlandz12, Hlanda00, Hlanda01, Hlanda02, Hlanda10, Hlanda11, Hlanda12⟩
  iapply first
  iapply (part3 m K c _ _ _ _) $$ HR HP0r01 Hlandr01 Hsrcr01 HP0r02 Hlandr02 Hsrcr02 HO
  iintro HP1r01 HP1r02 HO %a3 %b3
  iapply first
  iapply (part4 m K c _ _ _ _) $$ HR HP0r10 Hlandr10 Hsrcr10 HP0r11 Hlandr11 Hsrcr11 HO
  iintro HP1r10 HP1r11 HO %a4 %b4
  iapply first
  iapply (part5 m K c _ _ _ _) $$ HR HL HP0r12 Hlandr12 Hsrcr12 HP1r00 HP1r01 HO
  iintro HP1r12 HP2r00 Hlpr00 HP2r01 Hlpr01 HO
  iapply first
  iapply (part6 m K c _ _ _ _) $$ HR HL HP1r02 Hx0 Hlpr00 Hlpr01 HAu00 HO
  iintro HP2r02 Hx0 Hlpr00 Hlpr01 Hlpr02 HA00 Hsrcz00 Hsrcz01 Hsrcz02 HO %a6
  iapply first
  iapply (part7 m K c _ _ _) $$ HR HP0z00 Hlandz00 Hsrcz00 HP0z01 Hlandz01 Hsrcz01 HO
  iintro HP1z00 HP1z01 HO %a7 %b7
  iapply first
  iapply (part8 m K c _ _ _ _) $$ HR HL HP0z02 Hlandz02 Hsrcz02 HP1r10 HP1r11 HO
  iintro HP1z02 HP2r10 Hlpr10 HP2r11 Hlpr11 HO
  iapply first
  iapply (part9 m K c _ _ _) $$ HR HL HP1r12 Hx1 Hlpr10 Hlpr11 HAu10 HO
  iintro HP2r12 Hx1 Hlpr10 Hlpr11 Hlpr12 HA10 Hsrcy1 HO %a9
  iapply first
  iapply (part10 m K c _ _ _) $$ HR HL HP0y1 Hlandy1 Hsrcy1 HP1z00 HP1z01 HO
  iintro HP1y1 HP2z00 Hlpz00 HP2z01 Hlpz01 HO
  iapply first
  iapply (part11 m K c _ _ _) $$ HR HL HP1z02 HA00 Hlpz00 Hlpz01 HAu01 HO
  iintro HP2z02 HA00 Hlpz00 Hlpz01 Hlpz02 HA01 Hsrcy0 HO %a11
  iapply first
  iapply (part12 m K c _ _ _ _) $$ HR HL HP0y0 Hlandy0 Hsrcy0 HP1y1 HA10 HAu11 HO
  iintro HP1y0 HP2y1 HA10 Hlpy1 HA11 Hsrcz10 Hsrcz11 Hsrcz12 HO %a12
  iapply first
  iapply (part13 m K c _ _ _) $$ HR HP0z10 Hlandz10 Hsrcz10 HP0z11 Hlandz11 Hsrcz11 HO
  iintro HP1z10 HP1z11 HO %a13 %b13
  iapply first
  iapply (part14 m K c _ _ _) $$ HR HL HP0z12 Hlandz12 Hsrcz12 HP1y0 HA01 HAu02 HO
  iintro HP1z12 HP2y0 HA01 Hlpy0 HA02 HO
  iapply first
  iapply (part15 m K c _ _ _) $$ HR HA02 HOu0 HP0a00 Hlanda00 HO
  iintro HA02 HO0 Hsrca01 Hsrca02 HP1a00 HO %a15 %b15
  iapply first
  iapply (part16 m K c _ _ _ _) $$ HR HL HP0a01 Hlanda01 Hsrca01 HP0a02 Hlanda02 Hsrca02 HP1z10 HO
  iintro HP1a01 HP1a02 HP2z10 Hlpz10 HO %a16
  iapply first
  iapply (part17 m K c _ _ _) $$ HR HL HP1z11 HP1z12 HA11 Hlpz10 HO
  iintro HP2z11 HP2z12 Hlpz12 HA11 Hlpz10 Hlpz11 HO
  iapply first
  iapply (part18 m K c _ _ _) $$ HR Hlpz12 HAu12 HOu1 HP0a10 Hlanda10 HO
  iintro Hlpz12 HA12 HO1 Hsrca11 Hsrca12 HP1a10 HO %a18 %b18
  iapply first
  iapply (part19 m K c _ _ _ _ _) $$ HR HP0a11 Hlanda11 Hsrca11 HP0a12 Hlanda12 Hsrca12 HO
  iintro HP1a11 HP1a12 HO %a19 %b19
  iapply first
  iapply (part20 m K c _ _ _ _ _) $$ HR HL HP1a00 HP1a01 HP1a02 HP1a10 HO
  iintro HP2a00 Hlpa00 HP2a01 Hlpa01 HP2a02 Hlpa02 HP2a10 Hlpa10 HO
  iapply first
  iapply (part21 m K c _ _) $$ HR HL HP1a11 HP1a12 HP2r00 HP2r01 HO
  iintro HP2a11 Hlpa11 HP2a12 Hlpa12 HP3r00 Hsrcr00 HP3r01 Hsrcr01 HO
  iapply first
  iapply (part22 m K c _) $$ HR HP2r02 HP2r10 HP2r11 HP2r12 HO
  iintro HP3r02 Hsrcr02 HP3r10 Hsrcr10 HP3r11 Hsrcr11 HP3r12 Hsrcr12 HO
  iapply first
  iapply (part23 m K c _) $$ HR HP2z00 HP2z01 HP2z02 HO
  iintro HP3z00 Hsrcz00 HP3z01 Hsrcz01 HP3z02 Hsrcz02 HO
  iapply first
  iapply (part24 m K c _) $$ HR HP2y1 HP2y0 HP2z10 HO
  iintro HP3y1 Hsrcy1 HP3y0 Hsrcy0 HP3z10 Hsrcz10 HO
  iapply first
  iapply (part25 m K c _) $$ HR HP2z11 HP2z12 HP2a00 HP2a01 HO
  iintro HP3z11 Hsrcz11 HP3z12 Hsrcz12 HP3a00 Hsrca00 HP3a01 Hsrca01 HO
  simp only [Prog.lift, Prog.bind_op, Prog.bind_ret, Prog.pure_eq_ret]
  iapply (free m K (.ag 0 2) rfl rfl rfl) $$ HR HP2a02 HO
  iintro HP3a02 Hsrca02 HO
  iapply (free m K (.ag 1 0) rfl rfl rfl) $$ HR HP2a10 HO
  iintro HP3a10 Hsrca10 HO
  iapply (free m K (.ag 1 1) rfl rfl rfl) $$ HR HP2a11 HO
  iintro HP3a11 Hsrca11 HO
  iapply done
  iapply (free m K (.ag 1 2) rfl rfl rfl) $$ HR HP2a12 HO
  iintro HP3a12 Hsrca12 HO
  iapply done
  ihave HA00 := (back_z m 0 0 rfl c) $$ HA00 Hsrcz00 Hsrcz01 Hsrcz02
  ihave HA01 := (back_y m 0 1 rfl c) $$ HA01 Hsrcy0
  ihave HO0 := (back_ag m 0 c) $$ HO0 Hsrca00 Hsrca01 Hsrca02
  ihave HA11 := (back_z m 1 1 rfl c) $$ HA11 Hsrcz10 Hsrcz11 Hsrcz12
  ihave HA10 := (back_y m 1 0 rfl c) $$ HA10 Hsrcy1
  ihave HO1 := (back_ag m 1 c) $$ HO1 Hsrca10 Hsrca11 Hsrca12
  iapply Hk $$ Hbarz [HP3r00 HP3r01 HP3r02 HP3r10 HP3r11 HP3r12 HP3z00 HP3z01 HP3z02 HP3y1 HP3y0 HP3z10 HP3z11 HP3z12 HP3a00 HP3a01 HP3a02 HP3a10 HP3a11 HP3a12] [Hx0 Hsrcr00 Hsrcr01 Hsrcr02 Hx1 Hsrcr10 Hsrcr11 Hsrcr12] [HA00 HA01 HA02 HA10 HA11 HA12] [Hlpr00 Hlpr01 Hlpr02 Hlpr10 Hlpr11 Hlpr12] [Hlpz00 Hlpz01 Hlpz02 Hlpz10 Hlpz11 Hlpz12] [Hlpy0 Hlpy1] [HO0 Hlpa00 Hlpa01 Hlpa02 HO1 Hlpa10 Hlpa11 Hlpa12] HO
  · rw [over_T]
    isplitl [HP3r00]; · iexact HP3r00
    isplitl [HP3r01]; · iexact HP3r01
    isplitl [HP3r02]; · iexact HP3r02
    isplitl [HP3r10]; · iexact HP3r10
    isplitl [HP3r11]; · iexact HP3r11
    isplitl [HP3r12]; · iexact HP3r12
    isplitl [HP3z00]; · iexact HP3z00
    isplitl [HP3z01]; · iexact HP3z01
    isplitl [HP3z02]; · iexact HP3z02
    isplitl [HP3y1]; · iexact HP3y1
    isplitl [HP3y0]; · iexact HP3y0
    isplitl [HP3z10]; · iexact HP3z10
    isplitl [HP3z11]; · iexact HP3z11
    isplitl [HP3z12]; · iexact HP3z12
    isplitl [HP3a00]; · iexact HP3a00
    isplitl [HP3a01]; · iexact HP3a01
    isplitl [HP3a02]; · iexact HP3a02
    isplitl [HP3a10]; · iexact HP3a10
    isplitl [HP3a11]; · iexact HP3a11
    iexact HP3a12
  · rw [rows_x]
    isplitl [Hx0]; · iexact Hx0
    isplitl [Hsrcr00]; · iexact Hsrcr00
    isplitl [Hsrcr01]; · iexact Hsrcr01
    isplitl [Hsrcr02]; · iexact Hsrcr02
    isplitl [Hx1]; · iexact Hx1
    isplitl [Hsrcr10]; · iexact Hsrcr10
    isplitl [Hsrcr11]; · iexact Hsrcr11
    iexact Hsrcr12
  · rw [over_slots]
    isplitl [HA00]; · iexact HA00
    isplitl [HA01]; · iexact HA01
    isplitl [HA02]; · iexact HA02
    isplitl [HA10]; · iexact HA10
    isplitl [HA11]; · iexact HA11
    iexact HA12
  · rw [slots_r]
    isplitl [Hlpr00]; · iexact Hlpr00
    isplitl [Hlpr01]; · iexact Hlpr01
    isplitl [Hlpr02]; · iexact Hlpr02
    isplitl [Hlpr10]; · iexact Hlpr10
    isplitl [Hlpr11]; · iexact Hlpr11
    iexact Hlpr12
  · rw [slots_z]
    isplitl [Hlpz00]; · iexact Hlpz00
    isplitl [Hlpz01]; · iexact Hlpz01
    isplitl [Hlpz02]; · iexact Hlpz02
    isplitl [Hlpz10]; · iexact Hlpz10
    isplitl [Hlpz11]; · iexact Hlpz11
    iexact Hlpz12
  · rw [pairs_y]
    isplitl [Hlpy0]; · iexact Hlpy0
    iexact Hlpy1
  · rw [rows_o]
    isplitl [HO0]; · iexact HO0
    isplitl [Hlpa00]; · iexact Hlpa00
    isplitl [Hlpa01]; · iexact Hlpa01
    isplitl [Hlpa02]; · iexact Hlpa02
    isplitl [HO1]; · iexact HO1
    isplitl [Hlpa10]; · iexact Hlpa10
    isplitl [Hlpa11]; · iexact Hlpa11
    iexact Hlpa12

end Cert.AllReduce

end
-- ==== Proof.Window.lean ====
/-
# The body from whole buffers

The body takes its arrays block by block and leaves them block by block. Here every array is cut into the blocks its copies
use before the body runs, and put together again afterwards, which gives the body's obligation towards the pipeline that
stages its argument and its result.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × Ck → ℕ)

/-! ## Whole arrays and their blocks -/

section Tiles

/-- An array whose elements fall into disjoint sets is held whole exactly when it is held set by set. -/
theorem tile {ℓ : Loc nD τ sig} {I : Type} [Fintype I] [DecidableEq I] (S : I → Finset (Idx ℓ)) (hc : ∀ i, ∃ p, i ∈ S p)
    (hd : ∀ p ∈ (Finset.univ : Finset I), ∀ p' ∈ (Finset.univ : Finset I), p ≠ p' → Disjoint (S p) (S p')) (f : Buf (Elt F) ℓ) :
    (ℓ ↦{fullShare} f : sProp (MT nD τ sig Unit (Elt F) ℕ UU ℕ)) = bigSep Finset.univ fun p => ℓ ↦[S p]{fullShare} f := by
  rw [← pointsTo_biUnion Finset.univ S hd]
  refine congrArg (fun s => (ℓ ↦[s]{fullShare} f : sProp (MT nD τ sig Unit (Elt F) ℕ UU ℕ))) (Finset.ext fun i => ?_)
  obtain ⟨p, hp⟩ := hc i
  exact ⟨fun _ => Finset.mem_biUnion.mpr ⟨p, Finset.mem_univ _, hp⟩, fun _ => Finset.mem_univ _⟩

theorem slot_some (i : S2x3x32x256.Idx) : ∃ p : Fin 2 × Fin 3, i ∈ (slotR p.1 p.2).set := by
  have h := Finset.mem_univ i
  rw [slot_cover] at h
  obtain ⟨p, -, hp⟩ := Finset.mem_biUnion.mp h
  exact ⟨p, hp⟩
theorem pair_some (i : S2x32x256.Idx) : ∃ p : Fin 2, i ∈ (pairR p).set := by
  have h := Finset.mem_univ i
  rw [pair_cover] at h
  obtain ⟨p, -, hp⟩ := Finset.mem_biUnion.mp h
  exact ⟨p, hp⟩
theorem row_some (i : S256x256.Idx) : ∃ p : Fin 2 × Fin 4, i ∈ (rowR p.1 p.2).set := by
  have h := Finset.mem_univ i
  rw [row_cover] at h
  obtain ⟨p, -, hp⟩ := Finset.mem_biUnion.mp h
  exact ⟨p, hp⟩

variable (c : Dev nD)

theorem tile_x (f : Buf (Elt F) ((c : Thread nD τ).loc cc0_stg0_0)) : (((c : Thread nD τ).loc cc0_stg0_0) ↦{fullShare} f : sProp (MT nD τ sig Unit (Elt F) ℕ UU ℕ))
    = bigSep Finset.univ fun p : Fin 2 × Fin 4 => blk (rowsAt xM p.1 p.2) c fullShare f := by
  refine (tile (ℓ := (c : Thread nD τ).loc cc0_stg0_0) (fun p : Fin 2 × Fin 4 => (rowR p.1 p.2).set) row_some row_disj f).trans (bigSep_congr fun p _ => ?_)
  exact congrArg (fun s => (((c : Thread nD τ).loc cc0_stg0_0) ↦[s]{fullShare} f : sProp (MT nD τ sig Unit (Elt F) ℕ UU ℕ))) (View.set_slice_whole cc0_stg0_0 (rowR p.1 p.2)).symm
theorem tile_o (f : Buf (Elt F) ((c : Thread nD τ).loc cc0_stg1_0)) : (((c : Thread nD τ).loc cc0_stg1_0) ↦{fullShare} f : sProp (MT nD τ sig Unit (Elt F) ℕ UU ℕ))
    = bigSep Finset.univ fun p : Fin 2 × Fin 4 => blk (rowsAt oM p.1 p.2) c fullShare f := by
  refine (tile (ℓ := (c : Thread nD τ).loc cc0_stg1_0) (fun p : Fin 2 × Fin 4 => (rowR p.1 p.2).set) row_some row_disj f).trans (bigSep_congr fun p _ => ?_)
  exact congrArg (fun s => (((c : Thread nD τ).loc cc0_stg1_0) ↦[s]{fullShare} f : sProp (MT nD τ sig Unit (Elt F) ℕ UU ℕ))) (View.set_slice_whole cc0_stg1_0 (rowR p.1 p.2)).symm
theorem tile_acc (f : Buf (Elt F) ((c : Thread nD τ).loc cc0_scratch0)) : (((c : Thread nD τ).loc cc0_scratch0) ↦{fullShare} f : sProp (MT nD τ sig Unit (Elt F) ℕ UU ℕ))
    = bigSep Finset.univ fun p : Fin 2 × Fin 3 => blk (slotM accM p.1 p.2) c fullShare f := by
  refine (tile (ℓ := (c : Thread nD τ).loc cc0_scratch0) (fun p : Fin 2 × Fin 3 => (slotR p.1 p.2).set) slot_some slot_disj f).trans (bigSep_congr fun p _ => ?_)
  exact congrArg (fun s => (((c : Thread nD τ).loc cc0_scratch0) ↦[s]{fullShare} f : sProp (MT nD τ sig Unit (Elt F) ℕ UU ℕ))) ((slot_set accM p.1 p.2).trans (View.set_slice_whole cc0_scratch0 (slotR p.1 p.2))).symm
theorem tile_rs (f : Buf (Elt F) ((c : Thread nD τ).loc cc0_scratch1)) : (((c : Thread nD τ).loc cc0_scratch1) ↦{fullShare} f : sProp (MT nD τ sig Unit (Elt F) ℕ UU ℕ))
    = bigSep Finset.univ fun p : Fin 2 × Fin 3 => blk (slotM rsM p.1 p.2) c fullShare f := by
  refine (tile (ℓ := (c : Thread nD τ).loc cc0_scratch1) (fun p : Fin 2 × Fin 3 => (slotR p.1 p.2).set) slot_some slot_disj f).trans (bigSep_congr fun p _ => ?_)
  exact congrArg (fun s => (((c : Thread nD τ).loc cc0_scratch1) ↦[s]{fullShare} f : sProp (MT nD τ sig Unit (Elt F) ℕ UU ℕ))) ((slot_set rsM p.1 p.2).trans (View.set_slice_whole cc0_scratch1 (slotR p.1 p.2))).symm
theorem tile_z (f : Buf (Elt F) ((c : Thread nD τ).loc cc0_scratch2)) : (((c : Thread nD τ).loc cc0_scratch2) ↦{fullShare} f : sProp (MT nD τ sig Unit (Elt F) ℕ UU ℕ))
    = bigSep Finset.univ fun p : Fin 2 × Fin 3 => blk (slotM zM p.1 p.2) c fullShare f := by
  refine (tile (ℓ := (c : Thread nD τ).loc cc0_scratch2) (fun p : Fin 2 × Fin 3 => (slotR p.1 p.2).set) slot_some slot_disj f).trans (bigSep_congr fun p _ => ?_)
  exact congrArg (fun s => (((c : Thread nD τ).loc cc0_scratch2) ↦[s]{fullShare} f : sProp (MT nD τ sig Unit (Elt F) ℕ UU ℕ))) ((slot_set zM p.1 p.2).trans (View.set_slice_whole cc0_scratch2 (slotR p.1 p.2))).symm
theorem tile_y (f : Buf (Elt F) ((c : Thread nD τ).loc cc0_scratch3)) : (((c : Thread nD τ).loc cc0_scratch3) ↦{fullShare} f : sProp (MT nD τ sig Unit (Elt F) ℕ UU ℕ))
    = bigSep Finset.univ fun p : Fin 2 => blk (pairM yM p) c fullShare f := by
  refine (tile (ℓ := (c : Thread nD τ).loc cc0_scratch3) (fun p : Fin 2 => (pairR p).set) pair_some pair_disj f).trans (bigSep_congr fun p _ => ?_)
  exact congrArg (fun s => (((c : Thread nD τ).loc cc0_scratch3) ↦[s]{fullShare} f : sProp (MT nD τ sig Unit (Elt F) ℕ UU ℕ))) ((pair_set yM p).trans (View.set_slice_whole cc0_scratch3 (pairR p))).symm

/-- The copies by kind. -/
def kinds : (Fin 2 × Fin 3) ⊕ ((Fin 2 × Fin 3) ⊕ (Fin 2 ⊕ (Fin 2 × Fin 3))) ≃ T where
  toFun
    | .inl p => .rs p.1 p.2
    | .inr (.inl p) => .z p.1 p.2
    | .inr (.inr (.inl h)) => .y h
    | .inr (.inr (.inr p)) => .ag p.1 p.2
  invFun
    | .rs h k => .inl (h, k)
    | .z h k => .inr (.inl (h, k))
    | .y h => .inr (.inr (.inl h))
    | .ag h k => .inr (.inr (.inr (h, k)))
  left_inv := fun a => by rcases a with p | p | h | p <;> rfl
  right_inv := fun t => by cases t <;> rfl

/-- A conjunction over the copies, kind by kind. -/
theorem over_kinds (Φ : T → sProp (MT nD τ sig Unit (Elt F) ℕ UU ℕ)) : bigSep Finset.univ Φ
    = iprop((bigSep Finset.univ fun p : Fin 2 × Fin 3 => Φ (.rs p.1 p.2)) ∗ (bigSep Finset.univ fun p : Fin 2 × Fin 3 => Φ (.z p.1 p.2))
      ∗ (bigSep Finset.univ fun h : Fin 2 => Φ (.y h)) ∗ (bigSep Finset.univ fun p : Fin 2 × Fin 3 => Φ (.ag p.1 p.2))) := by
  rw [bigSep_univ_equiv kinds Φ, bigSep_univ_sum, bigSep_univ_sum, bigSep_univ_sum]; rfl

/-- Every place that the partners' copies write on `c`, and `c`'s own rows of the result. -/
theorem places (f1 : Buf (Elt F) ((c : Thread nD τ).loc cc0_scratch1)) (f2 : Buf (Elt F) ((c : Thread nD τ).loc cc0_scratch2))
    (f3 : Buf (Elt F) ((c : Thread nD τ).loc cc0_scratch3)) (fo : Buf (Elt F) ((c : Thread nD τ).loc cc0_stg1_0)) :
    iprop((((c : Thread nD τ).loc cc0_scratch1) ↦{fullShare} f1) ∗ (((c : Thread nD τ).loc cc0_scratch2) ↦{fullShare} f2)
        ∗ (((c : Thread nD τ).loc cc0_scratch3) ↦{fullShare} f3) ∗ (((c : Thread nD τ).loc cc0_stg1_0) ↦{fullShare} fo))
      ⊢ (iprop((bigSep Finset.univ fun t => landAny t (peer t c) c)
          ∗ (∃ f, blk (rowsAt oM 0 (pos c)) c fullShare f) ∗ (∃ f, blk (rowsAt oM 1 (pos c)) c fullShare f)) : sProp (MT nD τ sig Unit (Elt F) ℕ UU ℕ)) := by
  have eR (p : Fin 2 × Fin 3) : blk (slotM rsM p.1 p.2) c fullShare f1 ⊢ (landAny (.rs p.1 p.2) (peer (.rs p.1 p.2) c) c : sProp (MT nD τ sig Unit (Elt F) ℕ UU ℕ)) := by
    unfold landAny landPts
    iintro H
    iexists f1; iexact H
  have eRs : (bigSep Finset.univ fun p : Fin 2 × Fin 3 => blk (slotM rsM p.1 p.2) c fullShare f1)
      ⊢ (bigSep Finset.univ fun p : Fin 2 × Fin 3 => landAny (.rs p.1 p.2) (peer (.rs p.1 p.2) c) c : sProp (MT nD τ sig Unit (Elt F) ℕ UU ℕ)) := bigSep_mono fun p _ => eR p
  have eZ (p : Fin 2 × Fin 3) : blk (slotM zM p.1 p.2) c fullShare f2 ⊢ (landAny (.z p.1 p.2) (peer (.z p.1 p.2) c) c : sProp (MT nD τ sig Unit (Elt F) ℕ UU ℕ)) := by
    unfold landAny landPts
    iintro H
    iexists f2; iexact H
  have eZs : (bigSep Finset.univ fun p : Fin 2 × Fin 3 => blk (slotM zM p.1 p.2) c fullShare f2)
      ⊢ (bigSep Finset.univ fun p : Fin 2 × Fin 3 => landAny (.z p.1 p.2) (peer (.z p.1 p.2) c) c : sProp (MT nD τ sig Unit (Elt F) ℕ UU ℕ)) := bigSep_mono fun p _ => eZ p
  have eY (p : Fin 2) : blk (pairM yM p) c fullShare f3 ⊢ (landAny (.y p) (peer (.y p) c) c : sProp (MT nD τ sig Unit (Elt F) ℕ UU ℕ)) := by
    unfold landAny landPts
    iintro H
    iexists f3; iexact H
  have eYs : (bigSep Finset.univ fun p : Fin 2 => blk (pairM yM p) c fullShare f3)
      ⊢ (bigSep Finset.univ fun p : Fin 2 => landAny (.y p) (peer (.y p) c) c : sProp (MT nD τ sig Unit (Elt F) ℕ UU ℕ)) := bigSep_mono fun p _ => eY p
  have eO (h : Fin 2) (k : Fin 3) : blk (rowsAt oM h (pos (par (quad k) c))) c fullShare fo
      ⊢ (landAny (.ag h k) (peer (.ag h k) c) c : sProp (MT nD τ sig Unit (Elt F) ℕ UU ℕ)) := by
    unfold landAny
    iintro H
    iexists fo
    rw [landPts_ag]; iexact H
  rw [tile_rs, tile_z, tile_y, tile_o, over_kinds, over_rows c, over_slots (fun p => landAny (.ag p.1 p.2) (peer (.ag p.1 p.2) c) c)]
  iintro ⟨HR, HZ, HY, H0, Ha, Hb, Hc, H1, Hd, He, Hf⟩
  isplitl [HR HZ HY Ha Hb Hc Hd He Hf]
  · isplitl [HR]; · iapply eRs; iexact HR
    isplitl [HZ]; · iapply eZs; iexact HZ
    isplitl [HY]; · iapply eYs; iexact HY
    isplitl [Ha]; · iapply (eO 0 0); iexact Ha
    isplitl [Hb]; · iapply (eO 0 1); iexact Hb
    isplitl [Hc]; · iapply (eO 0 2); iexact Hc
    isplitl [Hd]; · iapply (eO 1 0); iexact Hd
    isplitl [He]; · iapply (eO 1 1); iexact He
    iapply (eO 1 2); iexact Hf
  isplitl [H0]
  · iexists fo; iexact H0
  · iexists fo; iexact H1

/-- The rights to the seven signals, with the places they hand over. -/
theorem signals : iprop((bigSep Finset.univ fun i : Fin 7 => dutyTok ER (barCell (par i c)) 0 i) ∗ (bigSep Finset.univ fun t => landAny t (peer t c) c))
    ⊢ (bigSep Finset.univ fun i : Fin 7 => sigRes c i : sProp (MT nD τ sig Unit (Elt F) ℕ UU ℕ)) := by
  have e : (bigSep Finset.univ fun t => (landAny t (peer t c) c : sProp (MT nD τ sig Unit (Elt F) ℕ UU ℕ)))
      = bigSep Finset.univ fun i : Fin 7 => bigSep (Finset.univ.filter fun t => dir t = i) fun t => landAny t (peer t c) c := by
    rw [← bigSep_groups]
    · exact congrArg (fun s => bigSep s _) (by ext t; simp)
    · intro i _ j _ hij
      exact Finset.disjoint_filter.mpr fun t _ h1 h2 => hij (h1.symm.trans h2)
  unfold sigRes
  rw [e, bigSep_sep']

end Tiles

/-! ## What a device starts from and ends with -/

section Run
variable (ρ : Dev nD → PrngReg)

/-- The machine before the launch. -/
def s₀ : MemSt nD τ sig (Elt F) := ⟨m, fun _ => 0, ρ⟩

/-- A whole array of device `c`, holding anything. -/
abbrev some (c : Dev nD) (b : Ref sig .tc) : sProp 𝕄 := iprop(∃ f : Buf (Elt F) ((c : Thread nD τ).loc b), ((c : Thread nD τ).loc b) ↦{fullShare} f)

/-- What device `c` has of the semaphores before its body. -/
def start (c : Dev nD) : sProp 𝕄 :=
  iprop((∃ K, records m K) ∗ levAts L lv ∗ atPos ER (barCell c) 0 ∅ 0 ∗ cred (tallyAt (barCell c) () 7)
    ∗ (bigSep Finset.univ fun i : Fin 7 => dutyTok ER (barCell (par i c)) 0 i) ∗ bigSep Finset.univ fun t => P0 t c)

def Φ₀ (c : Dev nD) : sProp 𝕄 := iprop(start m c ∗ some c cc0_scratch0 ∗ some c cc0_scratch1 ∗ some c cc0_scratch2 ∗ some c cc0_scratch3)
/-- After the body: the scratch arrays, and every semaphore at zero. -/
def Φ₁ (c : Dev nD) : sProp 𝕄 :=
  iprop((some c cc0_scratch0 ∗ some c cc0_scratch1 ∗ some c cc0_scratch2 ∗ some c cc0_scratch3) ∗ (bigSep Finset.univ fun t => P3 t c) ∗ semVal (barCell c) 0)

/-- The proof data of the pipeline: device `c` stages `x`, and the staged result ends as `outB`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => outB m c
  Φ t := match t with
    | ⟨0, _⟩ => Φ₀ m c
    | ⟨_ + 1, _⟩ => Φ₁ c
  q _ := fullShare
  owed t := match t with
    | ⟨0, _⟩ => owed c items
    | ⟨_ + 1, _⟩ => 0

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () (t0_0 : Fin cfg0.N).succ ∗ stg c cc0_stg0_0 (xB m c) ∗ stg c cc0_stg1_0 (outB m c))

/-- The body on whole buffers. -/
theorem body_whole (c : Dev nD) : bodyPre m ρ c ⊢ runs c (onArgs (cc0_body (F := F))) fun _ => bodyPost m ρ c := by
  unfold bodyPre Φ₀ start
  iintro ⟨⟨⟨⟨%K, #HR⟩, #HL, HaB, HcB, HT, HP⟩, ⟨%f0, H0⟩, ⟨%f1, H1⟩, ⟨%f2, H2⟩, ⟨%f3, H3⟩⟩, Ho, ⟨%d0, %g0, %hg0, Hx⟩, ⟨%d1, %g1, %hg1, Hout⟩⟩
  have hx : g0 = xB m c := by rw [hg0]; unfold Dat.before; rw [if_pos (fetch0_0 t0_0)]; rfl
  subst hx
  unfold Dat.owesAt Pipeline.owesWithin
  icases Ho with ⟨%W, %hW, HO⟩
  rw [show (dats m ρ 0 c).owed (t0_0 : Fin cfg0.N).castSucc = owed c items from rfl]
  ihave Hp := (places c f1 f2 f3 g1) $$ [H1 H2 H3 Hout]
  · isplitl [H1]; · iexact H1
    isplitl [H2]; · iexact H2
    isplitl [H3] <;> iassumption
  icases Hp with ⟨Hl, Ho0, Ho1⟩
  ihave HS := (signals c) $$ [HT Hl]
  · isplitl [HT] <;> iassumption
  ihave Hx := (Entails.of_eq (tile_x c _)) $$ Hx
  ihave HA := (Entails.of_eq (tile_acc c _)) $$ H0
  have eA (p : Fin 2 × Fin 3) : blk (slotM accM p.1 p.2) c fullShare f0 ⊢ (iprop(∃ f, blk (slotM accM p.1 p.2) c fullShare f) : sProp (MT nD τ sig Unit (Elt F) ℕ UU ℕ)) := by
    iintro H
    iexists f0; iexact H
  have eAs : (bigSep Finset.univ fun p : Fin 2 × Fin 3 => blk (slotM accM p.1 p.2) c fullShare f0)
      ⊢ (bigSep Finset.univ fun p : Fin 2 × Fin 3 => iprop(∃ f, blk (slotM accM p.1 p.2) c fullShare f) : sProp (MT nD τ sig Unit (Elt F) ℕ UU ℕ)) :=
    bigSep_mono fun p _ => eA p
  ihave HA := eAs $$ HA
  iapply (body_run m K c _) $$ HR HL HS HaB HcB HP Hx HA Ho0 Ho1 [HO]
  · unfold owesW; iexists W; iexact HO
  iintro HzB HP Hx HA H1 H2 H3 Hout HO
  unfold owesW
  icases HO with ⟨%W', HO⟩
  ihave Hx := (Entails.of_eq (tile_x c _).symm) $$ Hx
  ihave Hout := (Entails.of_eq (tile_o c _).symm) $$ Hout
  ihave H0 := (Entails.of_eq (tile_acc c _).symm) $$ HA
  ihave H1 := (Entails.of_eq (tile_rs c _).symm) $$ H1
  ihave H2 := (Entails.of_eq (tile_z c _).symm) $$ H2
  ihave H3 := (Entails.of_eq (tile_y c _).symm) $$ H3
  unfold bodyPost Φ₁ Dat.owesAt Pipeline.owesWithin
  rw [show (dats m ρ 0 c).owed (t0_0 : Fin cfg0.N).succ = owed c (left 27) from rfl]
  isplitl [HzB HP H0 H1 H2 H3]
  · isplitl [H0 H1 H2 H3]
    · isplitl [H0]; · iexists _; iexact H0
      isplitl [H1]; · iexists _; iexact H1
      isplitl [H2]; · iexists _; iexact H2
      iexists _; iexact H3
    isplitl [HP] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 8000 in
/-- The pipeline's obligation for the body on device `c`. -/
theorem body_obligation (c : Dev nD) : BodyObligation (dats (F := F) m ρ 0 c) (defs₀ (F := F)) 𝒱₀ () Set.univ := fun t => by
  rw [show t = (t0_0 : Fin cfg0.N) from fin_N0 t]
  rw [bigSep_W0, bigSep_W0]
  simp only [owns_whole_eq]
  show bodyPre m ρ c ⊢ runs c (onArgs (cc0_body (F := F))) fun _ => bodyPost m ρ c
  exact body_whole m ρ c

end Run

end Cert.AllReduce

end
-- ==== Proof.Launch.lean ====
/-
# The launch

The cells of every device at the start, the rights to pay them dealt around the mesh, the credit of what the partners owe,
and the run of the whole program: on all thirty-two devices it ends, with every semaphore at zero, the argument unchanged
and each device's result at its computed contents.
-/
module

public import proofs.«01_k».proof.Proof.Window
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights -/

theorem ownSemFacts : Pipeline.OwnSemFacts cfg0.spec osem := by decide +kernel

theorem share_eq (c : Dev nD) (w : Fin cfg0.W) : (dats m ρ 0 c).share w = fullShare := by unfold Dat.share; split <;> rfl

/-- No two copies' ends share a semaphore. -/
theorem osem_inj : Function.Injective osem := by
  rintro (t | t) (t' | t') h
  · exact congrArg Sum.inl (sendSem_inj (SemLoc.dma.inj h))
  · exact absurd (SemLoc.dma.inj h) (send_ne_recv t t')
  · exact absurd (SemLoc.dma.inj h).symm (send_ne_recv t' t)
  · exact congrArg Sum.inr (recvSem_inj (SemLoc.dma.inj h))
theorem csem_inj : Function.Injective csem := by
  rintro (u | k) (u' | k') h
  · rfl
  · rcases k' with t | t <;> cases h
  · rcases k with t | t <;> cases h
  · exact congrArg Sum.inr (osem_inj h)
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- The rights to pay device `c`'s cells: the barrier's seven, and one for each end of each copy. -/
abbrev tokOf (x : Dev nD × (Fin 7 ⊕ (T ⊕ T))) : GSem nD τ sig × ℕ × Fin 7 := match x.2 with
  | .inl i => (barCell x.1, 0, i)
  | .inr k => (kcell (x.1, .inr k), 0, 0)
theorem tokOf_inj : Function.Injective tokOf := by
  rintro ⟨c, k⟩ ⟨c', k'⟩ h
  have h1 : c = c' := by
    have := congrArg (fun x : GSem nD τ sig × ℕ × Fin 7 => x.1.1.1) h
    rcases k with i | k <;> rcases k' with i' | k' <;> exact this
  subst h1
  have h2 := congrArg (fun x : GSem nD τ sig × ℕ × Fin 7 => x.1.2) h
  have h3 := congrArg (fun x : GSem nD τ sig × ℕ × Fin 7 => x.2.2) h
  rcases k with i | k <;> rcases k' with i' | k'
  · rw [show i = i' from h3]
  · rcases k' with t | t <;> cases h2
  · rcases k with t | t <;> cases h2
  · rw [osem_inj (show osem k = osem k' from h2)]
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

section Deal
variable (c : Dev nD)

def toks : sProp 𝕄 :=
  iprop((bigSep Finset.univ fun i : Fin 7 => dutyTok ER (barCell c) 0 i) ∗ bigSep Finset.univ fun k : T ⊕ T => dutyTok ER (kcell (c, .inr k)) 0 0)
def marks : sProp 𝕄 := bigSep Finset.univ fun k : Ck => iprop(atPos ER (kcell (c, k)) 0 ∅ 0 ∗ reached ER (kcell (c, k)) 0)
/-- What the launch deals device `c`. -/
def G : sProp 𝕄 := iprop((bigSep Finset.univ fun k : Ck => roundState ER (rd m) (kcell (c, k)) 0) ∗ marks c ∗ toks c)

/-- The rights device `c` uses: its partners' barriers', and of each copy its own sending end's and its partner's receiving
    end's. -/
def payToks : sProp 𝕄 :=
  iprop((bigSep Finset.univ fun i : Fin 7 => dutyTok ER (barCell (par i c)) 0 i)
    ∗ (bigSep Finset.univ fun t : T => dutyTok ER (sendCell t c) 0 0) ∗ bigSep Finset.univ fun t : T => dutyTok ER (recvCell t (peer t c)) 0 0)
def linear : sProp 𝕄 := iprop((bigSep Finset.univ fun k : Ck => atPos ER (kcell (c, k)) 0 ∅ 0) ∗ payToks c)
/-- What device `c` has once every invariant is in place. -/
def G' : sProp 𝕄 := iprop((∃ K, records m K) ∗ linear c)
end Deal

omit [FloatOps F] in
/-- The rights are dealt around: device `c`'s `i`-th barrier right to its `i`-th partner, a copy's receiving end's to the
    sender. -/
theorem around : (bigSep Finset.univ fun c : Dev nD => (toks c : sProp 𝕄)) ⊢ bigSep Finset.univ fun c : Dev nD => payToks c := by
  have e1 : (bigSep Finset.univ fun c : Dev nD => bigSep Finset.univ fun i : Fin 7 => (dutyTok ER (barCell c) 0 i : sProp (MT nD τ sig Unit (Elt F) ℕ UU ℕ)))
      = bigSep Finset.univ fun c : Dev nD => bigSep Finset.univ fun i : Fin 7 => dutyTok ER (barCell (par i c)) 0 i := by
    rw [bigSep_univ_comm, bigSep_univ_comm (fun (c : Dev nD) (i : Fin 7) => (dutyTok ER (barCell (par i c)) 0 i : sProp (MT nD τ sig Unit (Elt F) ℕ UU ℕ)))]
    exact bigSep_congr fun i _ => bigSep_univ_equiv (parE i) _
  have e2 : (bigSep Finset.univ fun c : Dev nD => bigSep Finset.univ fun t : T => (dutyTok ER (recvCell t c) 0 0 : sProp (MT nD τ sig Unit (Elt F) ℕ UU ℕ)))
      = bigSep Finset.univ fun c : Dev nD => bigSep Finset.univ fun t : T => dutyTok ER (recvCell t (peer t c)) 0 0 := by
    rw [bigSep_univ_comm, bigSep_univ_comm (fun (c : Dev nD) (t : T) => (dutyTok ER (recvCell t (peer t c)) 0 0 : sProp (MT nD τ sig Unit (Elt F) ℕ UU ℕ)))]
    exact bigSep_congr fun t _ => bigSep_univ_equiv (parE (dir t)) _
  have e3 (c : Dev nD) : (toks c : sProp (MT nD τ sig Unit (Elt F) ℕ UU ℕ)) = iprop((bigSep Finset.univ fun i : Fin 7 => dutyTok ER (barCell c) 0 i)
      ∗ (bigSep Finset.univ fun t : T => dutyTok ER (sendCell t c) 0 0) ∗ bigSep Finset.univ fun t : T => dutyTok ER (recvCell t c) 0 0) := by
    unfold toks; rw [bigSep_univ_sum]; rfl
  rw [bigSep_congr fun (c : Dev nD) _ => e3 c]
  unfold payToks
  rw [bigSep_sep', bigSep_sep', bigSep_sep', bigSep_sep', e1, e2]

/-- The launch's ghost state, device by device. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G marks; simp only [bigSep_sep']
  isplitl [Hst]; · iexact Hst
  isplitl [Hat Hr]
  · isplitl [Hat] <;> iassumption
  iexact Htok

omit [FloatOps F] in
/-- The barrier is the one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun t : T => P3 t c := by
  unfold Pipeline.ownSems0 P3
  rw [bigSep_univ_sum, bigSep_sep']; rfl
omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  have e : (bigSep Finset.univ fun k : Ck => (semVal (kcell (c, k)) 0 : sProp (MT nD τ sig Unit (Elt F) ℕ UU ℕ)))
      = iprop(semVal (barCell c) 0 ∗ bigSep Finset.univ fun k : T ⊕ T => semVal ((c : Thread nD τ), osem k) 0) := by
    rw [bigSep_univ_sum, Finset.univ_unique, bigSep_singleton]; rfl
  rw [unscopedSems0_eq, e]
  unfold Pipeline.ownSems0
  iintro ⟨HS, HB⟩
  isplitl [HB] <;> iassumption

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (rd m) κ (kcell (c, k)))) ∗ marks c ∗ toks c) := by
  have ha : iprop((bigSep Finset.univ fun k : Ck => semVal (kcell (c, k)) 0) ∗ bigSep Finset.univ fun k : Ck => roundState ER (rd m) (kcell (c, k)) 0)
      ⊢ (|={Set.univ}=> bigSep Finset.univ fun k => iprop(∃ κ : ℕ, cellInv ER (rd m) κ (kcell (c, k))) : sProp (MT nD τ sig Unit (Elt F) ℕ UU ℕ)) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod ha $$ [Hv Hst] with Hinv
  · isplitl [Hv] <;> iassumption
  imodintro
  isplitl [Hinv]; · iexact Hinv
  isplitl [Hat] <;> iassumption

/-- Every device's invariants at once, the rights dealt around. -/
theorem regroup :
    (bigSep Finset.univ fun c : Dev nD => iprop((bigSep Finset.univ fun k : Ck => iprop(∃ κ : ℕ, cellInv ER (rd m) κ (kcell (c, k)))) ∗ marks c ∗ toks c) : sProp 𝕄)
      ⊢ bigSep Finset.univ (G' m) := by
  have e : (bigSep Finset.univ fun c : Dev nD => (marks c : sProp (MT nD τ sig Unit (Elt F) ℕ UU ℕ)))
      = iprop((bigSep Finset.univ fun c : Dev nD => bigSep Finset.univ fun k : Ck => atPos ER (kcell (c, k)) 0 ∅ 0)
        ∗ bigSep Finset.univ fun ck : Dev nD × Ck => reached ER (kcell ck) 0) := by
    unfold marks
    rw [bigSep_congr (s := Finset.univ) (fun (c : Dev nD) _ => bigSep_sep' Finset.univ (fun k : Ck => (atPos ER (kcell (c, k)) 0 ∅ 0 : sProp (MT nD τ sig Unit (Elt F) ℕ UU ℕ))) (fun k => reached ER (kcell (c, k)) 0)),
      bigSep_sep', ← bigSep_univ_prod (fun ck : Dev nD × Ck => (reached ER (kcell ck) 0 : sProp (MT nD τ sig Unit (Elt F) ℕ UU ℕ)))]
  have hg (K : Dev nD × Ck → ℕ) (c : Dev nD) : iprop(records m K ∗ linear c) ⊢ (G' m c : sProp (MT nD τ sig Unit (Elt F) ℕ UU ℕ)) := by
    unfold G'
    iintro ⟨HR, HL⟩
    isplitl [HR]
    · iexists K; iexact HR
    · iexact HL
  have hall (K : Dev nD × Ck → ℕ) : iprop(records m K ∗ bigSep Finset.univ fun c => linear c) ⊢ (bigSep Finset.univ (G' m) : sProp (MT nD τ sig Unit (Elt F) ℕ UU ℕ)) :=
    BI.bigSep_with_persistent fun c _ => hg K c
  have hl : iprop((bigSep Finset.univ fun c : Dev nD => bigSep Finset.univ fun k : Ck => atPos ER (kcell (c, k)) 0 ∅ 0) ∗ bigSep Finset.univ fun c : Dev nD => payToks c)
      ⊢ (bigSep Finset.univ fun c : Dev nD => linear c : sProp (MT nD τ sig Unit (Elt F) ℕ UU ℕ)) := by
    unfold linear
    rw [bigSep_sep']
  rw [bigSep_sep', bigSep_sep', ← bigSep_univ_prod (fun ck : Dev nD × Ck => iprop(∃ κ : ℕ, cellInv ER (rd m) κ (kcell ck))), e]
  iintro ⟨HI, ⟨Hat, HR⟩, Htok⟩
  ihave HK := (BI.bigSep_exists_pi Finset.univ (fun (ck : Dev nD × Ck) (κ : ℕ) => (cellInv ER (rd m) κ (kcell ck) : sProp (MT nD τ sig Unit (Elt F) ℕ UU ℕ)))) $$ HI
  icases HK with ⟨%K, HI⟩
  ihave Htk := (around (F := F)) $$ Htok
  iapply (hall K)
  isplitl [HI HR]
  · unfold records
    isplitl [HI] <;> iassumption
  iapply hl
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed -/

/-- What a list of payments of `d` comes to on one cell. -/
theorem owed_sum (d : Dev nD) (l : List Item) (g : GSem nD τ sig) : owed d l g () = (l.map fun a => item d a g ()).sum := by
  induction l with
  | nil => rfl
  | cons a l ih =>
    rw [List.map_cons, List.sum_cons, ← ih, Nat.add_comm]; rfl

/-- The partner a payment goes to, as a pattern. -/
def itemDir : Item → Fin 7
  | .inl i => i
  | .inr t => dir t
theorem itemDev_eq (d : Dev nD) (a : Item) : itemDev d a = par (itemDir a) d := by cases a <;> rfl

/-- Over all devices, one payment reaches a cell of device `c` exactly once if it is on that semaphore. -/
theorem item_sum (a : Item) (c : Dev nD) (sm : SemLoc sig) :
    (∑ d : Dev nD, item d a ((c : Thread nD τ), sm) ()) = if itemSem a = sm then itemAmt a else 0 := by
  have e (d : Dev nD) : item d a ((c : Thread nD τ), sm) () = if d = par (itemDir a) c then (if itemSem a = sm then itemAmt a else 0) else 0 := by
    unfold item
    rw [tallyAt_apply]
    by_cases h : d = par (itemDir a) c
    · subst h
      have hd : itemDev (par (itemDir a) c) a = c := (itemDev_eq _ a).trans (par_par _ c)
      rw [if_pos rfl]
      by_cases hs : itemSem a = sm
      · subst hs
        rw [if_pos rfl, if_pos ⟨by unfold itemCell; rw [hd], rfl⟩]
      · rw [if_neg hs, if_neg fun x => hs (congrArg Prod.snd x.1).symm]
    · rw [if_neg h, if_neg fun x => h ?_]
      have hc : c = itemDev d a := congrArg (fun g : GSem nD τ sig => g.1.1) x.1
      rw [hc, itemDev_eq, par_par]
  rw [Finset.sum_congr rfl fun d _ => e d, Finset.sum_ite_eq' Finset.univ _ fun _ => _, if_pos (Finset.mem_univ _)]

theorem list_sum_comm {α : Type} (l : List α) (f : Dev nD → α → ℕ) : (∑ d : Dev nD, (l.map (f d)).sum) = (l.map fun a => ∑ d : Dev nD, f d a).sum := by
  induction l with
  | nil => exact Finset.sum_const_zero
  | cons a l ih => simp only [List.map_cons, List.sum_cons, Finset.sum_add_distrib, ih]

/-- What device `c`'s semaphore is owed in all. -/
theorem credit_sum (c : Dev nD) (sm : SemLoc sig) :
    (∑ d : Dev nD, owed d items ((c : Thread nD τ), sm) ()) = (items.map fun a => if itemSem a = sm then itemAmt a else 0).sum := by
  rw [Finset.sum_congr rfl fun d _ => owed_sum d items _, list_sum_comm]
  exact congrArg List.sum (List.map_congr_left fun a _ => item_sum a c sm)

theorem count_recv : ∀ t : T, (items.map fun a => if itemSem a = .dma (recvSem t) then 1 else 0).sum = 1 := by decide +kernel
theorem amount_recv (q : DmaSem sig) (l : List Item) :
    (l.map fun a => if itemSem a = .dma q then itemAmt a else 0).sum = N * (l.map fun a => if itemSem a = .dma q then 1 else 0).sum := by
  induction l with
  | nil => rfl
  | cons a l ih =>
    rw [List.map_cons, List.map_cons, List.sum_cons, List.sum_cons, ih, Nat.mul_add]
    congr 1
    rcases a with i | t
    · rfl
    · by_cases h : itemSem (.inr t) = .dma q
      · rw [if_pos h, if_pos h, Nat.mul_one]
      · rw [if_neg h, if_neg h, Nat.mul_zero]

omit [FloatOps F] in
theorem launch_bar (c : Dev nD) : tallyOn (barCell c) (launchCredit (Pipeline.owing fun d => owed d items) 0 (barCell c)) = (tallyAt (barCell c) () 7 : CellTallies nD τ sig Unit) := by
  unfold tallyAt; refine congrArg _ (Finsupp.ext fun u => ?_); cases u
  rw [Pipeline.launchCredit_owing, Finsupp.single_eq_same, credit_sum]
  decide +kernel
omit [FloatOps F] in
theorem launch_recv (t : T) (c : Dev nD) : tallyOn (recvCell t c) (launchCredit (Pipeline.owing fun d => owed d items) 0 (recvCell t c)) = (tallyAt (recvCell t c) () N : CellTallies nD τ sig Unit) := by
  unfold tallyAt; refine congrArg _ (Finsupp.ext fun u => ?_); cases u
  rw [Pipeline.launchCredit_owing, Finsupp.single_eq_same, credit_sum, amount_recv, count_recv, Nat.mul_one]

/-- The receiving ends' semaphores. -/
def recvAt : T ↪ SemLoc sig := ⟨fun t => .dma (recvSem t), fun _ _ h => recvSem_inj (SemLoc.dma.inj h)⟩

omit [FloatOps F] in
theorem creds (c : Dev nD) : (Pipeline.launchCred (fun d => owed d items) c : sProp 𝕄)
    ⊢ iprop(cred (tallyAt (barCell c) () 7) ∗ bigSep Finset.univ fun t : T => cred (tallyAt (recvCell t c) () N)) := by
  unfold Pipeline.launchCred
  rw [bigSep_univ_at _ (SemLoc.reg barS), launch_bar]
  refine sep_mono_right ?_
  have hs : Finset.univ.map recvAt ⊆ Finset.univ.erase (SemLoc.reg barS) := fun x hx => by
    obtain ⟨t, -, rfl⟩ := Finset.mem_map.mp hx
    exact Finset.mem_erase.mpr ⟨fun h => (by cases h), Finset.mem_univ _⟩
  have e : (bigSep Finset.univ fun t : T => (cred (tallyAt (recvCell t c) () N) : sProp (MT nD τ sig Unit (Elt F) ℕ UU ℕ)))
      = bigSep (Finset.univ.map recvAt) fun sm => cred (tallyOn ((c : Thread nD τ), sm) (launchCredit (Pipeline.owing fun d => owed d items) 0 ((c : Thread nD τ), sm))) := by
    rw [bigSep_map]
    exact bigSep_congr fun t _ => congrArg cred (launch_recv t c).symm
  rw [e]
  exact bigSep_subset hs

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owed d items) c ∗ prngReg c (ρ c) ∗ G' m c)
      ⊢ |={Set.univ}=> iprop(start m c ∗ emp) := by
  have hb : (bigSep Finset.univ fun k : Ck => (atPos ER (kcell (c, k)) 0 ∅ 0 : sProp (MT nD τ sig Unit (Elt F) ℕ UU ℕ)))
      = iprop(atPos ER (barCell c) 0 ∅ 0 ∗ (bigSep Finset.univ fun t : T => atPos ER (sendCell t c) 0 ∅ 0) ∗ bigSep Finset.univ fun t : T => atPos ER (recvCell t c) 0 ∅ 0) := by
    rw [bigSep_univ_sum, bigSep_univ_sum, Finset.univ_unique, bigSep_singleton]; rfl
  unfold G' linear payToks start P0
  rw [hb]
  simp only [bigSep_sep']
  iintro ⟨-, Hlev, Hcr, -, HR, ⟨HaB, HaS, HaR⟩, HtB, HtS, HtR⟩
  ihave Hc := (creds (F := F) c) $$ Hcr
  icases Hc with ⟨HcB, HcR⟩
  imodintro
  isplitl
  · isplitl [HR]; · iexact HR
    isplitl [Hlev]; · iexact Hlev
    isplitl [HaB]; · iexact HaB
    isplitl [HcB]; · iexact HcB
    isplitl [HtB]; · iexact HtB
    isplitl [HaS]; · iexact HaS
    isplitl [HaR]; · iexact HaR
    isplitl [HcR]; · iexact HcR
    isplitl [HtS] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HP, HzB⟩
  isplitl [HzB]; · iexact HzB
  isplitl [HP] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ items (by fin_cases w <;> fin_cases s <;> decide +kernel)
    · exact mayWait c _ [] (fun a ha => absurd ha List.not_mem_nil)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On thirty-two devices, for any float values and from any memory with zero semaphores, the program ends on every device,
    leaving the arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d items) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Value.lean ====
/-
# The value

The array a device ends with is, in exact arithmetic, the sum over all thirty-two devices of their arguments, element by
element: whatever device it is, and however the partial sums were grouped. The reference's reduction is the same sum.
-/
module

public import proofs.«01_k».proof.Proof.Launch
public import proofs.«01_k».proof.Proof.Gen.ReferenceIdeal.Run
public import Idealize.ShloMosaic.Lib.Pointwise.Reduce
public import Idealize.ShloMosaic.Lib.Pointwise.Tactic

@[expose] public section

noncomputable section

namespace Cert.AllReduce

open Cert.KernelIdeal Cert.KernelIdeal.Gen
open Idealize.ShloMosaic Idealize.ShloMosaic.TcCoe
open Idealize.SL.Sem

/-! ## The arrays after the run -/

section Arrays

variable {F : FTy → Type} [FloatOps F]
variable (m : (ℓ : Loc nD τ sig) → Buf (Elt F) ℓ) (ρ : Dev nD → PrngReg)

/-- The argument's staged copy is the argument. -/
theorem xB_eq (c : Dev nD) : xB m c = m ((c : Thread nD τ).loc main_arg0) := by
  have hz : (fun a => (win0_0.index (0 : Fin 1)) a * main_arg0.ty.shape.size a) = fun _ => 0 :=
    funext fun a => by fin_cases a <;> decide
  unfold xB
  exact Memref.read_access_unit_zero (Elt F) main_arg0 hz (fun a => by fin_cases a <;> decide) _

/-- The result's array ends at what the staged result held. -/
theorem finalA_o (c : Dev nD) : finalA m ρ c (1 : Fin 2) = outB m c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m ρ c (1 : Fin 2))
  refine hr.symm.trans ?_
  show (win0_1.blk (0 : Fin 1)).view.read (Elt F) (finalA m ρ c (1 : Fin 2)) = _
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact View.read_write_univ _ _

end Arrays

/-! ## The devices a partial sum runs over -/

/-- A device's group of four; its line along the long axis; its pair. -/
def quadL (d : Dev nD) : List (Dev nD) := [d, par 0 d, par 1 d, par 2 d]
def farL (d : Dev nD) : List (Dev nD) := [d, par 4 d, par 5 d, par 6 d]
def pairL (d : Dev nD) : List (Dev nD) := [d, par 3 d]

/-- Pairs of lines of groups, or lines of pairs of groups: from any device they name every device once. -/
theorem cover0 : ∀ d : Dev nD, (((pairL d).flatMap farL).flatMap quadL).Perm (List.finRange 32) := by decide +kernel
theorem cover1 : ∀ d : Dev nD, (((farL d).flatMap pairL).flatMap quadL).Perm (List.finRange 32) := by decide +kernel

/-- The long axis and the pair leave a device's place in its group alone. -/
theorem pos_far : ∀ d : Dev nD, ∀ a ∈ farL d, pos a = pos d := by decide +kernel
theorem pos_pair : ∀ d : Dev nD, ∀ a ∈ pairL d, pos a = pos d := by decide +kernel
theorem pos_mate : ∀ (c : Dev nD) (q : Fin 4), pos (mate c q) = q := by decide +kernel

/-- A list of devices naming every device once sums over all of them. -/
theorem sum_cover {l : List (Dev nD)} (h : l.Perm (List.finRange 32)) (g : Dev nD → EReal) : (l.map g).sum = ∑ d : Fin 32, g d :=
  ((h.map g).sum_eq).trans (Fin.sum_univ_def g).symm

/-- A sum of sums is the sum along the joined lists. -/
theorem sum_join (l : List (Dev nD)) (f : Dev nD → List (Dev nD)) (g : Dev nD → EReal) :
    (l.map fun a => ((f a).map g).sum).sum = ((l.flatMap f).map g).sum := by
  induction l with
  | nil => rfl
  | cons a l ih => rw [List.map_cons, List.sum_cons, ih, List.flatMap_cons, List.map_append, List.sum_append]

/-! ## The partial sums in exact arithmetic -/

variable (m : (ℓ : Loc nD τ sig) → Buf (Elt Ideal) ℓ)

theorem quad_at (g : Dev nD → Blk Ideal) (c : Dev nD) (x : S32x256.Idx) :
    (quadSum g c x : EReal) = ((quadL c).map fun d => (g d x : EReal)).sum := by
  show ((g c x : EReal) + g (par 0 c) x + g (par 1 c) x + g (par 2 c) x : EReal) = _
  simp only [quadL, List.map_cons, List.map_nil, List.sum_cons, List.sum_nil, add_zero, add_assoc]

theorem far_at (g : Dev nD → Blk Ideal) (c : Dev nD) (x : S32x256.Idx) :
    (farSum g c x : EReal) = ((farL c).map fun d => (g d x : EReal)).sum := by
  show ((g c x : EReal) + g (par 4 c) x + g (par 5 c) x + g (par 6 c) x : EReal) = _
  simp only [farL, List.map_cons, List.map_nil, List.sum_cons, List.sum_nil, add_zero, add_assoc]

theorem pair_at (g : Dev nD → Blk Ideal) (c : Dev nD) (x : S32x256.Idx) :
    (pairSum g c x : EReal) = ((pairL c).map fun d => (g d x : EReal)).sum := by
  show ((g c x : EReal) + g (par 3 c) x : EReal) = _
  simp only [pairL, List.map_cons, List.map_nil, List.sum_cons, List.sum_nil, add_zero]

/-- The group's sum of half `h`, of any device at place `q`. -/
theorem acc0_at (h : Fin 2) (c : Dev nD) (q : Fin 4) (hq : pos c = q) (x : S32x256.Idx) :
    (acc0 m h c x : EReal) = ((quadL c).map fun e => (X m e h q x : EReal)).sum := by
  subst hq; exact quad_at _ c x

/-- The second partial sum, of any device at place `q`: over the line, or over the pair, of groups. -/
theorem acc1_at0 (c : Dev nD) (q : Fin 4) (hq : pos c = q) (x : S32x256.Idx) :
    (acc1 m 0 c x : EReal) = (((farL c).flatMap quadL).map fun e => (X m e 0 q x : EReal)).sum := by
  refine (far_at (acc0 m 0) c x).trans (Eq.trans (congrArg List.sum (List.map_congr_left fun a ha => ?_)) (sum_join _ _ _))
  exact acc0_at m 0 a q ((pos_far c a ha).trans hq) x

theorem acc1_at1 (c : Dev nD) (q : Fin 4) (hq : pos c = q) (x : S32x256.Idx) :
    (acc1 m 1 c x : EReal) = (((pairL c).flatMap quadL).map fun e => (X m e 1 q x : EReal)).sum := by
  refine (pair_at (acc0 m 1) c x).trans (Eq.trans (congrArg List.sum (List.map_congr_left fun a ha => ?_)) (sum_join _ _ _))
  exact acc0_at m 1 a q ((pos_pair c a ha).trans hq) x

/-- The last partial sum, of any device at place `q`: over all devices. -/
theorem acc2_at (h : Fin 2) (c : Dev nD) (q : Fin 4) (hq : pos c = q) (x : S32x256.Idx) :
    (acc2 m h c x : EReal) = ∑ d : Fin 32, (X m d h q x : EReal) := by
  match h with
  | 0 =>
    have e : (((pairL c).map fun a => (acc1 m 0 a x : EReal)) : List EReal)
        = (pairL c).map fun a => (((farL a).flatMap quadL).map fun e => (X m e 0 q x : EReal)).sum :=
      List.map_congr_left fun a ha => acc1_at0 m a q ((pos_pair c a ha).trans hq) x
    refine (pair_at (acc1 m 0) c x).trans ((congrArg List.sum e).trans ?_)
    rw [sum_join, ← List.flatMap_assoc]
    exact sum_cover (cover0 c) _
  | 1 =>
    have e : (((farL c).map fun a => (acc1 m 1 a x : EReal)) : List EReal)
        = (farL c).map fun a => (((pairL a).flatMap quadL).map fun e => (X m e 1 q x : EReal)).sum :=
      List.map_congr_left fun a ha => acc1_at1 m a q ((pos_far c a ha).trans hq) x
    refine (far_at (acc1 m 1) c x).trans ((congrArg List.sum e).trans ?_)
    rw [sum_join, ← List.flatMap_assoc]
    exact sum_cover (cover1 c) _

/-- The block and the row within it of an index lead back to the index. -/
theorem row_index (i : S256x256.Idx) :
    (rowR ⟨(i 0).val / 128, Nat.div_lt_of_lt_mul (i 0).isLt⟩ ⟨(i 0).val % 128 / 32, Nat.div_lt_of_lt_mul (Nat.mod_lt _ (by decide))⟩).emb
      (ix2 ⟨(i 0).val % 32, Nat.mod_lt _ (by decide)⟩ (i 1)) = i := by
  refine funext fun a => Fin.ext ?_
  match a with
  | 0 =>
    show 128 * ((i 0).val / 128) + 32 * ((i 0).val % 128 / 32) + 1 * ((i 0).val % 32) = (i 0).val
    omega
  | 1 =>
    show 0 + 1 * (i 1).val = (i 1).val
    omega

/-- Device `d`'s argument. -/
def arg (d : Dev nD) : S256x256.Idx → EReal := m ((d : Thread nD τ).loc main_arg0)

/-- What any device ends with: at every element, the sum over all devices of their arguments there. -/
theorem outB_at (c : Dev nD) (i : S256x256.Idx) :
    (outB m c i : EReal) = ∑ d : Fin 32, arg m d i := by
  let h : Fin 2 := ⟨(i 0).val / 128, Nat.div_lt_of_lt_mul (i 0).isLt⟩
  let q : Fin 4 := ⟨(i 0).val % 128 / 32, Nat.div_lt_of_lt_mul (Nat.mod_lt _ (by decide))⟩
  let x : S32x256.Idx := ix2 ⟨(i 0).val % 32, Nat.mod_lt _ (by decide)⟩ (i 1)
  have e : (outB m c i : EReal) = acc2 m h (mate c q) x := rfl
  refine e.trans ((acc2_at m h (mate c q) q (pos_mate c q) x).trans (Finset.sum_congr rfl fun d _ => ?_))
  exact (congrArg (xB m d) (row_index i)).trans (congrFun (xB_eq m d) i)

/-! ## The reference -/

/-- Row `r` of block `d` is row `256 d + r` of the whole array. -/
theorem block_row (x : (⟨2, ![8192, 256]⟩ : Shape).Idx → EReal) (d : Fin 32) (i : S256x256.Idx)
    (h : (⟨2, ![8192, 256]⟩ : Shape).ShapeCasts ⟨3, ![32, 256, 256]⟩) :
    shapeCast ⟨3, ![32, 256, 256]⟩ x h (ix3 d (i 0) (i 1)) = Layout.block ⟨2, ![256, 256]⟩ ⟨2, ![8192, 256]⟩ 0 32 d x (by decide) i := by
  rw [Pointwise.shapeCast_apply, Layout.block_apply]
  refine congrArg x (Shape.reshapeEquiv_eq_of_vals _ _ _ _ _ (rowMajor_val2 _ 256 rfl) (rowMajor_val3 _ 65536 256 rfl rfl) ?_)
  show (d.val * 256 + (i 0).val) * 256 + (i 1).val = d.val * 65536 + (i 0).val * 256 + (i 1).val
  omega

/-- The reference's result of the whole array `x`: at every element, the sum over the blocks. -/
theorem ref_at (x : (⟨2, ![8192, 256]⟩ : Shape).Idx → EReal) (i : S256x256.Idx) :
    (Host.reduceAdd (F := Ideal) (φ := .f32) (shapeCast ⟨3, ![32, 256, 256]⟩ x Cert.ReferenceIdeal.Gen.shapeCasts_S8192x256_S32x256x256)
      (constant Cert.ReferenceIdeal.S_ .f32 0x00000000#32) Cert.ReferenceIdeal.Gen.reducesTo_S32x256x256_S256x256_d0 Cert.ReferenceIdeal.Gen.h_S_ i : EReal)
      = ∑ d : Fin 32, Layout.block ⟨2, ![256, 256]⟩ ⟨2, ![8192, 256]⟩ 0 32 d x (by decide) i := by
  rw [Host.reduceAdd_apply, Ideal.hostReduceAdd_def, Ideal.hostReduceAdd_r3_a0]
  have z : (constant Cert.ReferenceIdeal.S_ .f32 0x00000000#32 : FVec Ideal Cert.ReferenceIdeal.S_ .f32) (Shape.Idx.first Cert.ReferenceIdeal.Gen.h_S_) = (0 : EReal) :=
    Ideal.ofBits_zero_f32
  refine (congrArg₂ (· + ·) z (Finset.sum_congr rfl fun d _ => block_row x d i _)).trans (zero_add _)

end Cert.AllReduce

end
-- ==== Proof.lean ====
/-
# The certificate

The five claims about the all-reduce on thirty-two devices. The run is proved once, over any float values
(`Cert.AllReduce.run_main`): both frames are read from it, and the value from its result array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its exact reading are the same program over any float values: the body tables agree, -/
theorem body_table {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

/-- and so do the tables with the staging around them. -/
theorem table {F : FTy → Type} [FloatOps F] : Cert.Kernel.defs (F := F) = Cert.KernelIdeal.defs (F := F) := by
  unfold Cert.Kernel.defs Cert.KernelIdeal.defs
  exact congrArg (Pipeline.defs Cert.Kernel.pcfgs) body_table

/-- The kernel terminates on every device, its argument unchanged and every semaphore at zero. -/
theorem frame_kernel : Cert.quiescent_Kernel := by
  intro m ρ _
  rw [table]
  exact (θ_run Cert.KernelIdeal.defs (onTc Cert.KernelIdeal.main) (Cert.AllReduce.s₀ (F := Bits) m ρ)).mono
    (fun r h => ⟨fun c => (h.1 c (0 : Fin 2)).trans (Cert.AllReduce.finalA_x m ρ c), h.2⟩)
    (Cert.AllReduce.run_main (F := Bits) m ρ)

/-- The same of its exact reading. -/
theorem frame_ideal : Cert.quiescent_KernelIdeal := fun m ρ _ =>
  (θ_run Cert.KernelIdeal.defs _ _).mono (fun _ h => ⟨fun c => (h.1 c (0 : Fin 2)).trans (Cert.AllReduce.finalA_x m ρ c), h.2⟩)
    (Cert.AllReduce.run_main (F := Ideal) m ρ)

/-- The reference terminates, its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic, from arguments that are the blocks of the reference's, every device's result is the reference's. -/
theorem value : Cert.algebraic_KernelIdeal_ReferenceIdeal := by
  intro m ρ m' ρ' _ hagree
  refine ⟨_, (θ_run Cert.KernelIdeal.defs _ _).mono
      (fun r h c => ⟨((h.1 c (1 : Fin 2)).trans (Cert.AllReduce.finalA_o m ρ c)).trans (funext fun i => ?_),
        (h.1 c (0 : Fin 2)).trans (Cert.AllReduce.finalA_x m ρ c)⟩)
      (Cert.AllReduce.run_main (F := Ideal) m ρ),
    (θ_run Cert.ReferenceIdeal.defs _ _).mono (fun _ h => h 0) (Cert.ReferenceIdeal.Value.run (F := Ideal) m' ρ')⟩
  refine (Cert.AllReduce.outB_at m c i).trans (Eq.trans (Finset.sum_congr rfl fun d _ => ?_) (Cert.AllReduce.ref_at _ i).symm)
  exact congrFun (hagree d) i

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
